-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S144x2x128 Cert.KernelIdeal.S144x1x128
  ∧ IdealRules.bf16_pair.BufferStatement Cert.KernelIdeal.S2x3584x2x128 Cert.KernelIdeal.S2x3584x1x128
  ∧ IdealRules.bf16_pair.BufferStatement Cert.KernelIdeal.S1792x2x128 Cert.KernelIdeal.S1792x1x128
  ∧ IdealRules.bf16_pair.Statement Cert.KernelIdeal.S1x3584x2x128 Cert.KernelIdeal.S1x3584x1x128
  ∧ IdealRules.bf16_pair.SelectZeroStatement Cert.KernelIdeal.S1x3584x128
  ∧ IdealRules.bf16_pair.Statement Cert.KernelIdeal.S1792x2x128 Cert.KernelIdeal.S1792x1x128
  ∧ IdealRules.bf16_pair.SelectZeroStatement Cert.KernelIdeal.S1792x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S1x2x128 Cert.KernelIdeal.S1x1x128
  ∧ IdealRules.bf16_pair.Statement Cert.KernelIdeal.S2x128 Cert.KernelIdeal.S1x128
  ∧ IdealRules.bf16_pair.Statement Cert.KernelIdeal.S32x128 Cert.KernelIdeal.S16x128
  ∧ IdealRules.bf16_pair.Statement Cert.KernelIdeal.S256x128 Cert.KernelIdeal.S128x128
  ∧ IdealRules.bf16_pair.PackStatement Cert.KernelIdeal.S128x128
  ∧ IdealRules.bf16_pair.Statement Cert.KernelIdeal.S1x128x2x128 Cert.KernelIdeal.S1x128x1x128
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pair.PackStatement Cert.KernelIdeal.S8x96
  ∧ IdealRules.bf16_pair.Statement Cert.KernelIdeal.S8x2x96 Cert.KernelIdeal.S8x1x96
  ∧ IdealRules.bf16_pair.Statement Cert.KernelIdeal.S64x2x128 Cert.KernelIdeal.S64x1x128
  ∧ IdealRules.bf16_pair.Statement Cert.KernelIdeal.S96x128 Cert.KernelIdeal.S48x128
  ∧ IdealRules.bf16_pair.Statement Cert.KernelIdeal.S64x128 Cert.KernelIdeal.S32x128
  ∧ IdealRules.bf16_pair.Statement Cert.KernelIdeal.S192x128 Cert.KernelIdeal.S96x128
  ∧ IdealRules.bf16_pair.PackStatement Cert.KernelIdeal.S564x128
  ∧ IdealRules.bf16_pair.Statement Cert.KernelIdeal.S1128x128 Cert.KernelIdeal.S564x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v32_0) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x47x192 : Shape := ⟨3, ![8192, 47, 192]⟩
abbrev S8192x47x6 : Shape := ⟨3, ![8192, 47, 6]⟩
abbrev S8192x192 : Shape := ⟨2, ![8192, 192]⟩
abbrev S_ : Shape := ⟨0, ![]⟩

class Facts : Prop where
  bitsLt_bf16_f32 : FTy.bits .bf16 < FTy.bits .f32
  bcast_S_S8192x192 : S_.BroadcastsInDim S8192x192 (![] : Fin 0 → Fin S8192x192.rank)
  reducesTo_S8192x192_S_d0_1 : S8192x192.ReducesTo [0, 1] S_
  h_S_ : 0 < S_.numel

variable [Facts]

def fn {F : FTy → Type} [FloatOps F] (main_arg0 : FVec F S8192x47x192 .fp8e4m3) (main_arg1 : FVec F S8192x47x6 .f32) (main_arg2 : FVec F S8192x192 .bf16) : IVec S_ 1 :=
  let main_v0 : FVec F S8192x192 .f32 := (extf .f32 · bitsLt_bf16_f32) main_arg2
  let main_v1 : FVec F S8192x192 .f32 := Host.absf main_v0
  let main_cst : FVec F S_ .f32 := constant S_ .f32 0x7F7F0000#32
  let main_v2 : FVec F S8192x192 .f32 := broadcastInDim S8192x192 ![] bcast_S_S8192x192 main_cst
  let main_v3 : IVec S8192x192 1 := cmpf .ole main_v1 main_v2
  let main_c : IVec S_ 1 := constantI S_ 1 1#1
  let main_v4 : IVec S_ 1 := (fun x v => Host.reduce IntOp.andi x v reducesTo_S8192x192_S_d0_1 h_S_) main_v3 main_c
  main_v4
-- ==== Kernel.lean ====
abbrev S8192x47x192 : Shape := ⟨3, ![8192, 47, 192]⟩
abbrev S8192x47x6 : Shape := ⟨3, ![8192, 47, 6]⟩
abbrev S8192x192 : Shape := ⟨2, ![8192, 192]⟩
abbrev S47x192x8192 : Shape := ⟨3, ![47, 192, 8192]⟩
abbrev S6x47x8192 : Shape := ⟨3, ![6, 47, 8192]⟩
abbrev S192x8192 : Shape := ⟨2, ![192, 8192]⟩
abbrev S1320x8192 : Shape := ⟨2, ![1320, 8192]⟩
abbrev S47x8192 : Shape := ⟨2, ![47, 8192]⟩
abbrev S6x8192 : Shape := ⟨2, ![6, 8192]⟩
abbrev S47x192x128 : Shape := ⟨3, ![47, 192, 128]⟩
abbrev S6x47x128 : Shape := ⟨3, ![6, 47, 128]⟩
abbrev S192x128 : Shape := ⟨2, ![192, 128]⟩
abbrev S1320x128 : Shape := ⟨2, ![1320, 128]⟩
abbrev S47x128 : Shape := ⟨2, ![47, 128]⟩
abbrev S6x128 : Shape := ⟨2, ![6, 128]⟩
abbrev S288x128 : Shape := ⟨2, ![288, 128]⟩
abbrev S144x128 : Shape := ⟨2, ![144, 128]⟩
abbrev S2x3584x128 : Shape := ⟨3, ![2, 3584, 128]⟩
abbrev S1792x128 : Shape := ⟨2, ![1792, 128]⟩
abbrev S128x128 : Shape := ⟨2, ![128, 128]⟩
abbrev S1128x128 : Shape := ⟨2, ![1128, 128]⟩
abbrev S48x128 : Shape := ⟨2, ![48, 128]⟩
abbrev S3584x128 : Shape := ⟨2, ![3584, 128]⟩
abbrev S1x3584x128 : Shape := ⟨3, ![1, 3584, 128]⟩
abbrev S32x128 : Shape := ⟨2, ![32, 128]⟩
abbrev S128 : Shape := ⟨1, ![128]⟩
abbrev S1x128 : Shape := ⟨2, ![1, 128]⟩
abbrev S256x128 : Shape := ⟨2, ![256, 128]⟩
abbrev S1x47x128 : Shape := ⟨3, ![1, 47, 128]⟩
abbrev S8x128 : Shape := ⟨2, ![8, 128]⟩
abbrev S1x32x128 : Shape := ⟨3, ![1, 32, 128]⟩
abbrev S16x128 : Shape := ⟨2, ![16, 128]⟩
abbrev S1x128x128 : Shape := ⟨3, ![1, 128, 128]⟩
abbrev S1x8x128 : Shape := ⟨3, ![1, 8, 128]⟩
abbrev S16x256 : Shape := ⟨2, ![16, 256]⟩
abbrev S96x256 : Shape := ⟨2, ![96, 256]⟩
abbrev S96x96 : Shape := ⟨2, ![96, 96]⟩
abbrev S1x96 : Shape := ⟨2, ![1, 96]⟩
abbrev S8x96 : Shape := ⟨2, ![8, 96]⟩
abbrev S64x128 : Shape := ⟨2, ![64, 128]⟩
abbrev S40x128 : Shape := ⟨2, ![40, 128]⟩
abbrev S33x128 : Shape := ⟨2, ![33, 128]⟩
abbrev S41x128 : Shape := ⟨2, ![41, 128]⟩
abbrev S9x128 : Shape := ⟨2, ![9, 128]⟩
abbrev S34x128 : Shape := ⟨2, ![34, 128]⟩
abbrev S42x128 : Shape := ⟨2, ![42, 128]⟩
abbrev S2x128 : Shape := ⟨2, ![2, 128]⟩
abbrev S10x128 : Shape := ⟨2, ![10, 128]⟩
abbrev S35x128 : Shape := ⟨2, ![35, 128]⟩
abbrev S43x128 : Shape := ⟨2, ![43, 128]⟩
abbrev S3x128 : Shape := ⟨2, ![3, 128]⟩
abbrev S11x128 : Shape := ⟨2, ![11, 128]⟩
abbrev S36x128 : Shape := ⟨2, ![36, 128]⟩
abbrev S44x128 : Shape := ⟨2, ![44, 128]⟩
abbrev S4x128 : Shape := ⟨2, ![4, 128]⟩
abbrev S12x128 : Shape := ⟨2, ![12, 128]⟩
abbrev S37x128 : Shape := ⟨2, ![37, 128]⟩
abbrev S45x128 : Shape := ⟨2, ![45, 128]⟩
abbrev S5x128 : Shape := ⟨2, ![5, 128]⟩
abbrev S13x128 : Shape := ⟨2, ![13, 128]⟩
abbrev S38x128 : Shape := ⟨2, ![38, 128]⟩
abbrev S46x128 : Shape := ⟨2, ![46, 128]⟩
abbrev S14x128 : Shape := ⟨2, ![14, 128]⟩
abbrev S39x128 : Shape := ⟨2, ![39, 128]⟩
abbrev S7x128 : Shape := ⟨2, ![7, 128]⟩
abbrev S15x128 : Shape := ⟨2, ![15, 128]⟩
abbrev S20x128 : Shape := ⟨2, ![20, 128]⟩
abbrev S28x128 : Shape := ⟨2, ![28, 128]⟩
abbrev S24x128 : Shape := ⟨2, ![24, 128]⟩
abbrev S21x128 : Shape := ⟨2, ![21, 128]⟩
abbrev S29x128 : Shape := ⟨2, ![29, 128]⟩
abbrev S17x128 : Shape := ⟨2, ![17, 128]⟩
abbrev S25x128 : Shape := ⟨2, ![25, 128]⟩
abbrev S22x128 : Shape := ⟨2, ![22, 128]⟩
abbrev S30x128 : Shape := ⟨2, ![30, 128]⟩
abbrev S18x128 : Shape := ⟨2, ![18, 128]⟩
abbrev S26x128 : Shape := ⟨2, ![26, 128]⟩
abbrev S23x128 : Shape := ⟨2, ![23, 128]⟩
abbrev S31x128 : Shape := ⟨2, ![31, 128]⟩
abbrev S19x128 : Shape := ⟨2, ![19, 128]⟩
abbrev S27x128 : Shape := ⟨2, ![27, 128]⟩
abbrev S96x128 : Shape := ⟨2, ![96, 128]⟩
abbrev S660x128 : Shape := ⟨2, ![660, 128]⟩
abbrev S564x128 : Shape := ⟨2, ![564, 128]⟩
abbrev S8192x1320 : Shape := ⟨2, ![8192, 1320]⟩
abbrev S8192x47 : Shape := ⟨2, ![8192, 47]⟩
abbrev S8192x6 : Shape := ⟨2, ![8192, 6]⟩

abbrev nBuf : Space → Nat
  | .hbm => 14
  | .vmem => 21
  | .smem => 0
  | _ => 0

abbrev bufTy : (tb : Table) → Fin (tcTables nBuf tb) → BufTy
  | .hbm, ⟨0, _⟩ => ⟨S8192x47x192, .fp8e4m3⟩
  | .hbm, ⟨1, _⟩ => ⟨S8192x47x6, .f32⟩
  | .hbm, ⟨2, _⟩ => ⟨S8192x192, .bf16⟩
  | .hbm, ⟨3, _⟩ => ⟨S47x192x8192, .fp8e4m3⟩
  | .hbm, ⟨4, _⟩ => ⟨S6x47x8192, .f32⟩
  | .hbm, ⟨5, _⟩ => ⟨S192x8192, .bf16⟩
  | .hbm, ⟨6, _⟩ => ⟨S1320x8192, .bf16⟩
  | .hbm, ⟨7, _⟩ => ⟨S47x8192, .f32⟩
  | .hbm, ⟨8, _⟩ => ⟨S192x8192, .fp8e4m3⟩
  | .hbm, ⟨9, _⟩ => ⟨S6x8192, .f32⟩
  | .hbm, ⟨10, _⟩ => ⟨S8192x1320, .bf16⟩
  | .hbm, ⟨11, _⟩ => ⟨S8192x47, .f32⟩
  | .hbm, ⟨12, _⟩ => ⟨S8192x192, .fp8e4m3⟩
  | .hbm, ⟨13, _⟩ => ⟨S8192x6, .f32⟩
  | .local _ .vmem, ⟨0, _⟩ => ⟨S47x192x128, .fp8e4m3⟩
  | .local _ .vmem, ⟨1, _⟩ => ⟨S47x192x128, .fp8e4m3⟩
  | .local _ .vmem, ⟨2, _⟩ => ⟨S6x47x128, .f32⟩
  | .local _ .vmem, ⟨3, _⟩ => ⟨S6x47x128, .f32⟩
  | .local _ .vmem, ⟨4, _⟩ => ⟨S192x128, .bf16⟩
  | .local _ .vmem, ⟨5, _⟩ => ⟨S192x128, .bf16⟩
  | .local _ .vmem, ⟨6, _⟩ => ⟨S1320x128, .bf16⟩
  | .local _ .vmem, ⟨7, _⟩ => ⟨S1320x128, .bf16⟩
  | .local _ .vmem, ⟨8, _⟩ => ⟨S47x128, .f32⟩
  | .local _ .vmem, ⟨9, _⟩ => ⟨S47x128, .f32⟩
  | .local _ .vmem, ⟨10, _⟩ => ⟨S192x128, .fp8e4m3⟩
  | .local _ .vmem, ⟨11, _⟩ => ⟨S192x128, .fp8e4m3⟩
  | .local _ .vmem, ⟨12, _⟩ => ⟨S6x128, .f32⟩
  | .local _ .vmem, ⟨13, _⟩ => ⟨S6x128, .f32⟩
  | .local _ .vmem, ⟨14, _⟩ => ⟨S288x128, .f32⟩
  | .local _ .vmem, ⟨15, _⟩ => ⟨S144x128, .i32⟩
  | .local _ .vmem, ⟨16, _⟩ => ⟨S2x3584x128, .i32⟩
  | .local _ .vmem, ⟨17, _⟩ => ⟨S1792x128, .i32⟩
  | .local _ .vmem, ⟨18, _⟩ => ⟨S128x128, .f32⟩
  | .local _ .vmem, ⟨19, _⟩ => ⟨S1128x128, .f32⟩
  | .local _ .vmem, ⟨20, _⟩ => ⟨S48x128, .f32⟩
  | _, _ => ⟨S8192x47x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32_323 : BitVec 32 := 0#32
  let c23_i32_324 : BitVec 32 := 23#32
  let v672 : BitVec 32 := Scalar.addi c0_i32_323 c23_i32_324
  let c1_i32_325 : BitVec 32 := 1#32
  ⟨c0_i32_323, v672, c1_i32_325⟩
def k0_off1 (k0_t1 : Fin k0_t1_loop.trips) : Fin 3 → Nat :=
  let c2_i32 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1276 : BitVec 32 := Scalar.muli c2_i32 v1270
  let c1_i32_526 : BitVec 32 := 1#32
  let v1277 : BitVec 32 := Scalar.subi v1276 c1_i32_526
  let v1278 : Index := Scalar.indexCast v1277
  let c0_527 : Index := 0#32
  let c0_528 : Index := 0#32
  ![v1278.toNat, 0, 0]
def k0_off2 (k0_t1 : Fin k0_t1_loop.trips) : Fin 3 → Nat :=
  let c2_i32_529 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1282 : BitVec 32 := Scalar.muli c2_i32_529 v1270
  let c1_i32_530 : BitVec 32 := 1#32
  let v1283 : BitVec 32 := Scalar.addi v1282 c1_i32_530
  let c1_i32_531 : BitVec 32 := 1#32
  let v1284 : BitVec 32 := Scalar.subi v1283 c1_i32_531
  let v1285 : Index := Scalar.indexCast v1284
  let c0_532 : Index := 0#32
  let c0_533 : Index := 0#32
  ![v1285.toNat, 0, 0]
def k0_off3 (k0_t1 : Fin k0_t1_loop.trips) (c0_i32_534 : BitVec 32) : Fin 2 → Nat :=
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1289 : BitVec 32 := Scalar.addi c0_i32_534 v1270
  let v1290 : Index := Scalar.indexCast v1289
  let c0_535 : Index := 0#32
  ![v1290.toNat, 0]
def k0_off4 (k0_t1 : Fin k0_t1_loop.trips) : Fin 3 → Nat :=
  let c2_i32_540 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1314 : BitVec 32 := Scalar.muli c2_i32_540 v1270
  let c1_i32_541 : BitVec 32 := 1#32
  let v1315 : BitVec 32 := Scalar.subi v1314 c1_i32_541
  let v1316 : Index := Scalar.indexCast v1315
  let c32_542 : Index := 32#32
  let c0_543 : Index := 0#32
  ![v1316.toNat, 32, 0]
def k0_off5 (k0_t1 : Fin k0_t1_loop.trips) : Fin 3 → Nat :=
  let c2_i32_544 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1320 : BitVec 32 := Scalar.muli c2_i32_544 v1270
  let c1_i32_545 : BitVec 32 := 1#32
  let v1321 : BitVec 32 := Scalar.addi v1320 c1_i32_545
  let c1_i32_546 : BitVec 32 := 1#32
  let v1322 : BitVec 32 := Scalar.subi v1321 c1_i32_546
  let v1323 : Index := Scalar.indexCast v1322
  let c32_547 : Index := 32#32
  let c0_548 : Index := 0#32
  ![v1323.toNat, 32, 0]
def k0_off6 (k0_t1 : Fin k0_t1_loop.trips) : Fin 3 → Nat :=
  let c2_i32_554 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1352 : BitVec 32 := Scalar.muli c2_i32_554 v1270
  let c1_i32_555 : BitVec 32 := 1#32
  let v1353 : BitVec 32 := Scalar.subi v1352 c1_i32_555
  let v1354 : Index := Scalar.indexCast v1353
  let c64_556 : Index := 64#32
  let c0_557 : Index := 0#32
  ![v1354.toNat, 64, 0]
def k0_off7 (k0_t1 : Fin k0_t1_loop.trips) : Fin 3 → Nat :=
  let c2_i32_558 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1358 : BitVec 32 := Scalar.muli c2_i32_558 v1270
  let c1_i32_559 : BitVec 32 := 1#32
  let v1359 : BitVec 32 := Scalar.addi v1358 c1_i32_559
  let c1_i32_560 : BitVec 32 := 1#32
  let v1360 : BitVec 32 := Scalar.subi v1359 c1_i32_560
  let v1361 : Index := Scalar.indexCast v1360
  let c64_561 : Index := 64#32
  let c0_562 : Index := 0#32
  ![v1361.toNat, 64, 0]
def k0_off8 (k0_t1 : Fin k0_t1_loop.trips) : Fin 3 → Nat :=
  let c2_i32_568 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1390 : BitVec 32 := Scalar.muli c2_i32_568 v1270
  let c1_i32_569 : BitVec 32 := 1#32
  let v1391 : BitVec 32 := Scalar.subi v1390 c1_i32_569
  let v1392 : Index := Scalar.indexCast v1391
  let c96_570 : Index := 96#32
  let c0_571 : Index := 0#32
  ![v1392.toNat, 96, 0]
def k0_off9 (k0_t1 : Fin k0_t1_loop.trips) : Fin 3 → Nat :=
  let c2_i32_572 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1396 : BitVec 32 := Scalar.muli c2_i32_572 v1270
  let c1_i32_573 : BitVec 32 := 1#32
  let v1397 : BitVec 32 := Scalar.addi v1396 c1_i32_573
  let c1_i32_574 : BitVec 32 := 1#32
  let v1398 : BitVec 32 := Scalar.subi v1397 c1_i32_574
  let v1399 : Index := Scalar.indexCast v1398
  let c96_575 : Index := 96#32
  let c0_576 : Index := 0#32
  ![v1399.toNat, 96, 0]
def k0_off10 (k0_t1 : Fin k0_t1_loop.trips) : Fin 3 → Nat :=
  let c2_i32_582 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1428 : BitVec 32 := Scalar.muli c2_i32_582 v1270
  let c1_i32_583 : BitVec 32 := 1#32
  let v1429 : BitVec 32 := Scalar.subi v1428 c1_i32_583
  let v1430 : Index := Scalar.indexCast v1429
  let c128_584 : Index := 128#32
  let c0_585 : Index := 0#32
  ![v1430.toNat, 128, 0]
def k0_off11 (k0_t1 : Fin k0_t1_loop.trips) : Fin 3 → Nat :=
  let c2_i32_586 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1434 : BitVec 32 := Scalar.muli c2_i32_586 v1270
  let c1_i32_587 : BitVec 32 := 1#32
  let v1435 : BitVec 32 := Scalar.addi v1434 c1_i32_587
  let c1_i32_588 : BitVec 32 := 1#32
  let v1436 : BitVec 32 := Scalar.subi v1435 c1_i32_588
  let v1437 : Index := Scalar.indexCast v1436
  let c128_589 : Index := 128#32
  let c0_590 : Index := 0#32
  ![v1437.toNat, 128, 0]
def k0_off12 (k0_t1 : Fin k0_t1_loop.trips) : Fin 3 → Nat :=
  let c2_i32_596 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1466 : BitVec 32 := Scalar.muli c2_i32_596 v1270
  let c1_i32_597 : BitVec 32 := 1#32
  let v1467 : BitVec 32 := Scalar.subi v1466 c1_i32_597
  let v1468 : Index := Scalar.indexCast v1467
  let c160_598 : Index := 160#32
  let c0_599 : Index := 0#32
  ![v1468.toNat, 160, 0]
def k0_off13 (k0_t1 : Fin k0_t1_loop.trips) : Fin 3 → Nat :=
  let c2_i32_600 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1472 : BitVec 32 := Scalar.muli c2_i32_600 v1270
  let c1_i32_601 : BitVec 32 := 1#32
  let v1473 : BitVec 32 := Scalar.addi v1472 c1_i32_601
  let c1_i32_602 : BitVec 32 := 1#32
  let v1474 : BitVec 32 := Scalar.subi v1473 c1_i32_602
  let v1475 : Index := Scalar.indexCast v1474
  let c160_603 : Index := 160#32
  let c0_604 : Index := 0#32
  ![v1475.toNat, 160, 0]
def k0_off14 (k0_t1 : Fin k0_t1_loop.trips) : Fin 3 → Nat :=
  let c0_615 : Index := 0#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1526 : Index := Scalar.indexCast v1270
  let c0_616 : Index := 0#32
  ![0, v1526.toNat, 0]
def k0_off15 (k0_t1 : Fin k0_t1_loop.trips) : Fin 3 → Nat :=
  let c1_617 : Index := 1#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1530 : Index := Scalar.indexCast v1270
  let c0_618 : Index := 0#32
  ![1, v1530.toNat, 0]
@[reducible] def k0_t2_loop : Scf.Loop 32 :=
  let c0_i32_327 : BitVec 32 := 0#32
  let c64_i32 : BitVec 32 := 64#32
  let v673 : BitVec 32 := Scalar.addi c0_i32_327 c64_i32
  let c1_i32_328 : BitVec 32 := 1#32
  ⟨c0_i32_327, v673, c1_i32_328⟩
def k0_off16 (k0_t2 : Fin k0_t2_loop.trips) (c0_i32_525 : BitVec 32) : Fin 3 → Nat :=
  let c0_526 : Index := 0#32
  let c28_i32 : BitVec 32 := 28#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1272 : BitVec 32 := Scalar.muli c28_i32 v1270
  let v1273 : BitVec 32 := Scalar.addi v1272 c0_i32_525
  let v1274 : Index := Scalar.indexCast v1273
  let c0_527 : Index := 0#32
  ![0, v1274.toNat, 0]
def k0_off17 (k0_t2 : Fin k0_t2_loop.trips) (c0_i32_525 : BitVec 32) : Fin 3 → Nat :=
  let c1_528 : Index := 1#32
  let c28_i32 : BitVec 32 := 28#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1272 : BitVec 32 := Scalar.muli c28_i32 v1270
  let v1273 : BitVec 32 := Scalar.addi v1272 c0_i32_525
  let v1278 : Index := Scalar.indexCast v1273
  let c0_529 : Index := 0#32
  ![1, v1278.toNat, 0]
def k0_off18 (k0_t2 : Fin k0_t2_loop.trips) (c0_i32_542 : BitVec 32) : Fin 3 → Nat :=
  let c0_543 : Index := 0#32
  let c28_i32_541 : BitVec 32 := 28#32
  let c64_i32_524 : BitVec 32 := 64#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1271 : BitVec 32 := Scalar.addi c64_i32_524 v1270
  let v1305 : BitVec 32 := Scalar.muli c28_i32_541 v1271
  let v1306 : BitVec 32 := Scalar.addi v1305 c0_i32_542
  let v1307 : Index := Scalar.indexCast v1306
  let c0_544 : Index := 0#32
  ![0, v1307.toNat, 0]
def k0_off19 (k0_t2 : Fin k0_t2_loop.trips) (c0_i32_542 : BitVec 32) : Fin 3 → Nat :=
  let c1_545 : Index := 1#32
  let c28_i32_541 : BitVec 32 := 28#32
  let c64_i32_524 : BitVec 32 := 64#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1271 : BitVec 32 := Scalar.addi c64_i32_524 v1270
  let v1305 : BitVec 32 := Scalar.muli c28_i32_541 v1271
  let v1306 : BitVec 32 := Scalar.addi v1305 c0_i32_542
  let v1311 : Index := Scalar.indexCast v1306
  let c0_546 : Index := 0#32
  ![1, v1311.toNat, 0]
def k0_off20 (k0_t2 : Fin k0_t2_loop.trips) : Fin 2 → Nat :=
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1341 : Index := Scalar.indexCast v1270
  let c0_560 : Index := 0#32
  ![v1341.toNat, 0]
def k0_off21 (k0_t2 : Fin k0_t2_loop.trips) : Fin 2 → Nat :=
  let c64_i32_561 : BitVec 32 := 64#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1346 : BitVec 32 := Scalar.addi c64_i32_561 v1270
  let v1347 : Index := Scalar.indexCast v1346
  let c0_562 : Index := 0#32
  ![v1347.toNat, 0]
def k0_off22 (k0_t2 : Fin k0_t2_loop.trips) : Fin 2 → Nat :=
  let c28_i32_563 : BitVec 32 := 28#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1373 : BitVec 32 := Scalar.muli c28_i32_563 v1270
  let v1374 : Index := Scalar.indexCast v1373
  let c0_564 : Index := 0#32
  ![v1374.toNat, 0]
def k0_off23 (k0_t2 : Fin k0_t2_loop.trips) (c8_i32_566 : BitVec 32) : Fin 2 → Nat :=
  let c28_i32_565 : BitVec 32 := 28#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1379 : BitVec 32 := Scalar.muli c28_i32_565 v1270
  let v1380 : BitVec 32 := Scalar.addi v1379 c8_i32_566
  let v1381 : Index := Scalar.indexCast v1380
  let c0_567 : Index := 0#32
  ![v1381.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S47x192x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x47x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1320x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S47x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S8192x47x192 : Shape := ⟨3, ![8192, 47, 192]⟩
abbrev S8192x47x6 : Shape := ⟨3, ![8192, 47, 6]⟩
abbrev S8192x192 : Shape := ⟨2, ![8192, 192]⟩
abbrev S47x192x8192 : Shape := ⟨3, ![47, 192, 8192]⟩
abbrev S6x47x8192 : Shape := ⟨3, ![6, 47, 8192]⟩
abbrev S192x8192 : Shape := ⟨2, ![192, 8192]⟩
abbrev S1320x8192 : Shape := ⟨2, ![1320, 8192]⟩
abbrev S47x8192 : Shape := ⟨2, ![47, 8192]⟩
abbrev S6x8192 : Shape := ⟨2, ![6, 8192]⟩
abbrev S47x192x128 : Shape := ⟨3, ![47, 192, 128]⟩
abbrev S6x47x128 : Shape := ⟨3, ![6, 47, 128]⟩
abbrev S192x128 : Shape := ⟨2, ![192, 128]⟩
abbrev S1320x128 : Shape := ⟨2, ![1320, 128]⟩
abbrev S47x128 : Shape := ⟨2, ![47, 128]⟩
abbrev S6x128 : Shape := ⟨2, ![6, 128]⟩
abbrev S288x128 : Shape := ⟨2, ![288, 128]⟩
abbrev S144x128 : Shape := ⟨2, ![144, 128]⟩
abbrev S144x2x128 : Shape := ⟨3, ![144, 2, 128]⟩
abbrev S144x1x128 : Shape := ⟨3, ![144, 1, 128]⟩
abbrev S2x3584x128 : Shape := ⟨3, ![2, 3584, 128]⟩
abbrev S2x3584x2x128 : Shape := ⟨4, ![2, 3584, 2, 128]⟩
abbrev S2x3584x1x128 : Shape := ⟨4, ![2, 3584, 1, 128]⟩
abbrev S1792x128 : Shape := ⟨2, ![1792, 128]⟩
abbrev S1792x2x128 : Shape := ⟨3, ![1792, 2, 128]⟩
abbrev S1792x1x128 : Shape := ⟨3, ![1792, 1, 128]⟩
abbrev S128x128 : Shape := ⟨2, ![128, 128]⟩
abbrev S1128x128 : Shape := ⟨2, ![1128, 128]⟩
abbrev S48x128 : Shape := ⟨2, ![48, 128]⟩
abbrev S3584x128 : Shape := ⟨2, ![3584, 128]⟩
abbrev S1x3584x128 : Shape := ⟨3, ![1, 3584, 128]⟩
abbrev S1x3584x2x128 : Shape := ⟨4, ![1, 3584, 2, 128]⟩
abbrev S1x3584x1x128 : Shape := ⟨4, ![1, 3584, 1, 128]⟩
abbrev S32x128 : Shape := ⟨2, ![32, 128]⟩
abbrev S128 : Shape := ⟨1, ![128]⟩
abbrev S1x128 : Shape := ⟨2, ![1, 128]⟩
abbrev S256x128 : Shape := ⟨2, ![256, 128]⟩
abbrev S1x47x128 : Shape := ⟨3, ![1, 47, 128]⟩
abbrev S8x128 : Shape := ⟨2, ![8, 128]⟩
abbrev S8x2x128 : Shape := ⟨3, ![8, 2, 128]⟩
abbrev S8x1x128 : Shape := ⟨3, ![8, 1, 128]⟩
abbrev S1x32x128 : Shape := ⟨3, ![1, 32, 128]⟩
abbrev S1x2x128 : Shape := ⟨3, ![1, 2, 128]⟩
abbrev S1x1x128 : Shape := ⟨3, ![1, 1, 128]⟩
abbrev S2x128 : Shape := ⟨2, ![2, 128]⟩
abbrev S16x128 : Shape := ⟨2, ![16, 128]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S16x256 : Shape := ⟨2, ![16, 256]⟩
abbrev S96x256 : Shape := ⟨2, ![96, 256]⟩
abbrev S96x96 : Shape := ⟨2, ![96, 96]⟩
abbrev S1x96 : Shape := ⟨2, ![1, 96]⟩
abbrev S8x96 : Shape := ⟨2, ![8, 96]⟩
abbrev S8x2x96 : Shape := ⟨3, ![8, 2, 96]⟩
abbrev S8x1x96 : Shape := ⟨3, ![8, 1, 96]⟩
abbrev S64x128 : Shape := ⟨2, ![64, 128]⟩
abbrev S64x2x128 : Shape := ⟨3, ![64, 2, 128]⟩
abbrev S64x1x128 : Shape := ⟨3, ![64, 1, 128]⟩
abbrev S96x128 : Shape := ⟨2, ![96, 128]⟩
abbrev S40x128 : Shape := ⟨2, ![40, 128]⟩
abbrev S33x128 : Shape := ⟨2, ![33, 128]⟩
abbrev S41x128 : Shape := ⟨2, ![41, 128]⟩
abbrev S9x128 : Shape := ⟨2, ![9, 128]⟩
abbrev S34x128 : Shape := ⟨2, ![34, 128]⟩
abbrev S42x128 : Shape := ⟨2, ![42, 128]⟩
abbrev S10x128 : Shape := ⟨2, ![10, 128]⟩
abbrev S35x128 : Shape := ⟨2, ![35, 128]⟩
abbrev S43x128 : Shape := ⟨2, ![43, 128]⟩
abbrev S3x128 : Shape := ⟨2, ![3, 128]⟩
abbrev S11x128 : Shape := ⟨2, ![11, 128]⟩
abbrev S36x128 : Shape := ⟨2, ![36, 128]⟩
abbrev S44x128 : Shape := ⟨2, ![44, 128]⟩
abbrev S4x128 : Shape := ⟨2, ![4, 128]⟩
abbrev S12x128 : Shape := ⟨2, ![12, 128]⟩
abbrev S37x128 : Shape := ⟨2, ![37, 128]⟩
abbrev S45x128 : Shape := ⟨2, ![45, 128]⟩
abbrev S5x128 : Shape := ⟨2, ![5, 128]⟩
abbrev S13x128 : Shape := ⟨2, ![13, 128]⟩
abbrev S38x128 : Shape := ⟨2, ![38, 128]⟩
abbrev S46x128 : Shape := ⟨2, ![46, 128]⟩
abbrev S14x128 : Shape := ⟨2, ![14, 128]⟩
abbrev S39x128 : Shape := ⟨2, ![39, 128]⟩
abbrev S7x128 : Shape := ⟨2, ![7, 128]⟩
abbrev S15x128 : Shape := ⟨2, ![15, 128]⟩
abbrev S20x128 : Shape := ⟨2, ![20, 128]⟩
abbrev S28x128 : Shape := ⟨2, ![28, 128]⟩
abbrev S24x128 : Shape := ⟨2, ![24, 128]⟩
abbrev S21x128 : Shape := ⟨2, ![21, 128]⟩
abbrev S29x128 : Shape := ⟨2, ![29, 128]⟩
abbrev S17x128 : Shape := ⟨2, ![17, 128]⟩
abbrev S25x128 : Shape := ⟨2, ![25, 128]⟩
abbrev S22x128 : Shape := ⟨2, ![22, 128]⟩
abbrev S30x128 : Shape := ⟨2, ![30, 128]⟩
abbrev S18x128 : Shape := ⟨2, ![18, 128]⟩
abbrev S26x128 : Shape := ⟨2, ![26, 128]⟩
abbrev S23x128 : Shape := ⟨2, ![23, 128]⟩
abbrev S31x128 : Shape := ⟨2, ![31, 128]⟩
abbrev S19x128 : Shape := ⟨2, ![19, 128]⟩
abbrev S27x128 : Shape := ⟨2, ![27, 128]⟩
abbrev S660x128 : Shape := ⟨2, ![660, 128]⟩
abbrev S564x128 : Shape := ⟨2, ![564, 128]⟩
abbrev S8192x1320 : Shape := ⟨2, ![8192, 1320]⟩
abbrev S8192x47 : Shape := ⟨2, ![8192, 47]⟩
abbrev S8192x6 : Shape := ⟨2, ![8192, 6]⟩

abbrev nBuf : Space → Nat
  | .hbm => 14
  | .vmem => 21
  | .smem => 0
  | _ => 0

abbrev bufTy : (tb : Table) → Fin (tcTables nBuf tb) → BufTy
  | .hbm, ⟨0, _⟩ => ⟨S8192x47x192, .fp8e4m3⟩
  | .hbm, ⟨1, _⟩ => ⟨S8192x47x6, .f32⟩
  | .hbm, ⟨2, _⟩ => ⟨S8192x192, .bf16⟩
  | .hbm, ⟨3, _⟩ => ⟨S47x192x8192, .fp8e4m3⟩
  | .hbm, ⟨4, _⟩ => ⟨S6x47x8192, .f32⟩
  | .hbm, ⟨5, _⟩ => ⟨S192x8192, .bf16⟩
  | .hbm, ⟨6, _⟩ => ⟨S1320x8192, .bf16⟩
  | .hbm, ⟨7, _⟩ => ⟨S47x8192, .f32⟩
  | .hbm, ⟨8, _⟩ => ⟨S192x8192, .fp8e4m3⟩
  | .hbm, ⟨9, _⟩ => ⟨S6x8192, .f32⟩
  | .hbm, ⟨10, _⟩ => ⟨S8192x1320, .bf16⟩
  | .hbm, ⟨11, _⟩ => ⟨S8192x47, .f32⟩
  | .hbm, ⟨12, _⟩ => ⟨S8192x192, .fp8e4m3⟩
  | .hbm, ⟨13, _⟩ => ⟨S8192x6, .f32⟩
  | .local _ .vmem, ⟨0, _⟩ => ⟨S47x192x128, .fp8e4m3⟩
  | .local _ .vmem, ⟨1, _⟩ => ⟨S47x192x128, .fp8e4m3⟩
  | .local _ .vmem, ⟨2, _⟩ => ⟨S6x47x128, .f32⟩
  | .local _ .vmem, ⟨3, _⟩ => ⟨S6x47x128, .f32⟩
  | .local _ .vmem, ⟨4, _⟩ => ⟨S192x128, .bf16⟩
  | .local _ .vmem, ⟨5, _⟩ => ⟨S192x128, .bf16⟩
  | .local _ .vmem, ⟨6, _⟩ => ⟨S1320x128, .bf16⟩
  | .local _ .vmem, ⟨7, _⟩ => ⟨S1320x128, .bf16⟩
  | .local _ .vmem, ⟨8, _⟩ => ⟨S47x128, .f32⟩
  | .local _ .vmem, ⟨9, _⟩ => ⟨S47x128, .f32⟩
  | .local _ .vmem, ⟨10, _⟩ => ⟨S192x128, .fp8e4m3⟩
  | .local _ .vmem, ⟨11, _⟩ => ⟨S192x128, .fp8e4m3⟩
  | .local _ .vmem, ⟨12, _⟩ => ⟨S6x128, .f32⟩
  | .local _ .vmem, ⟨13, _⟩ => ⟨S6x128, .f32⟩
  | .local _ .vmem, ⟨14, _⟩ => ⟨S288x128, .f32⟩
  | .local _ .vmem, ⟨15, _⟩ => ⟨S144x2x128, .bf16⟩
  | .local _ .vmem, ⟨16, _⟩ => ⟨S2x3584x2x128, .bf16⟩
  | .local _ .vmem, ⟨17, _⟩ => ⟨S1792x2x128, .bf16⟩
  | .local _ .vmem, ⟨18, _⟩ => ⟨S128x128, .f32⟩
  | .local _ .vmem, ⟨19, _⟩ => ⟨S1128x128, .f32⟩
  | .local _ .vmem, ⟨20, _⟩ => ⟨S48x128, .f32⟩
  | _, _ => ⟨S8192x47x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_323 : BitVec 32 := 0#32
  let c23_i32_324 : BitVec 32 := 23#32
  let v672 : BitVec 32 := Scalar.addi c0_i32_323 c23_i32_324
  let c1_i32_325 : BitVec 32 := 1#32
  ⟨c0_i32_323, v672, c1_i32_325⟩
def k0_off1 (k0_t1 : Fin k0_t1_loop.trips) : Fin 3 → Nat :=
  let c2_i32 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1276 : BitVec 32 := Scalar.muli c2_i32 v1270
  let c1_i32_526 : BitVec 32 := 1#32
  let v1277 : BitVec 32 := Scalar.subi v1276 c1_i32_526
  let v1278 : Index := Scalar.indexCast v1277
  let c0_527 : Index := 0#32
  let c0_528 : Index := 0#32
  ![v1278.toNat, 0, 0]
def k0_off2 (k0_t1 : Fin k0_t1_loop.trips) : Fin 3 → Nat :=
  let c2_i32_529 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1282 : BitVec 32 := Scalar.muli c2_i32_529 v1270
  let c1_i32_530 : BitVec 32 := 1#32
  let v1283 : BitVec 32 := Scalar.addi v1282 c1_i32_530
  let c1_i32_531 : BitVec 32 := 1#32
  let v1284 : BitVec 32 := Scalar.subi v1283 c1_i32_531
  let v1285 : Index := Scalar.indexCast v1284
  let c0_532 : Index := 0#32
  let c0_533 : Index := 0#32
  ![v1285.toNat, 0, 0]
def k0_off3 (k0_t1 : Fin k0_t1_loop.trips) (c0_i32_534 : BitVec 32) : Fin 3 → Nat :=
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1289 : BitVec 32 := Scalar.addi c0_i32_534 v1270
  let v1290 : Index := Scalar.indexCast v1289
  let c0_535 : Index := 0#32
  ![v1290.toNat, 0, 0]
def k0_off4 (k0_t1 : Fin k0_t1_loop.trips) : Fin 3 → Nat :=
  let c2_i32_540 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1314 : BitVec 32 := Scalar.muli c2_i32_540 v1270
  let c1_i32_541 : BitVec 32 := 1#32
  let v1315 : BitVec 32 := Scalar.subi v1314 c1_i32_541
  let v1316 : Index := Scalar.indexCast v1315
  let c32_542 : Index := 32#32
  let c0_543 : Index := 0#32
  ![v1316.toNat, 32, 0]
def k0_off5 (k0_t1 : Fin k0_t1_loop.trips) : Fin 3 → Nat :=
  let c2_i32_544 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1320 : BitVec 32 := Scalar.muli c2_i32_544 v1270
  let c1_i32_545 : BitVec 32 := 1#32
  let v1321 : BitVec 32 := Scalar.addi v1320 c1_i32_545
  let c1_i32_546 : BitVec 32 := 1#32
  let v1322 : BitVec 32 := Scalar.subi v1321 c1_i32_546
  let v1323 : Index := Scalar.indexCast v1322
  let c32_547 : Index := 32#32
  let c0_548 : Index := 0#32
  ![v1323.toNat, 32, 0]
def k0_off6 (k0_t1 : Fin k0_t1_loop.trips) : Fin 3 → Nat :=
  let c2_i32_554 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1352 : BitVec 32 := Scalar.muli c2_i32_554 v1270
  let c1_i32_555 : BitVec 32 := 1#32
  let v1353 : BitVec 32 := Scalar.subi v1352 c1_i32_555
  let v1354 : Index := Scalar.indexCast v1353
  let c64_556 : Index := 64#32
  let c0_557 : Index := 0#32
  ![v1354.toNat, 64, 0]
def k0_off7 (k0_t1 : Fin k0_t1_loop.trips) : Fin 3 → Nat :=
  let c2_i32_558 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1358 : BitVec 32 := Scalar.muli c2_i32_558 v1270
  let c1_i32_559 : BitVec 32 := 1#32
  let v1359 : BitVec 32 := Scalar.addi v1358 c1_i32_559
  let c1_i32_560 : BitVec 32 := 1#32
  let v1360 : BitVec 32 := Scalar.subi v1359 c1_i32_560
  let v1361 : Index := Scalar.indexCast v1360
  let c64_561 : Index := 64#32
  let c0_562 : Index := 0#32
  ![v1361.toNat, 64, 0]
def k0_off8 (k0_t1 : Fin k0_t1_loop.trips) : Fin 3 → Nat :=
  let c2_i32_568 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1390 : BitVec 32 := Scalar.muli c2_i32_568 v1270
  let c1_i32_569 : BitVec 32 := 1#32
  let v1391 : BitVec 32 := Scalar.subi v1390 c1_i32_569
  let v1392 : Index := Scalar.indexCast v1391
  let c96_570 : Index := 96#32
  let c0_571 : Index := 0#32
  ![v1392.toNat, 96, 0]
def k0_off9 (k0_t1 : Fin k0_t1_loop.trips) : Fin 3 → Nat :=
  let c2_i32_572 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1396 : BitVec 32 := Scalar.muli c2_i32_572 v1270
  let c1_i32_573 : BitVec 32 := 1#32
  let v1397 : BitVec 32 := Scalar.addi v1396 c1_i32_573
  let c1_i32_574 : BitVec 32 := 1#32
  let v1398 : BitVec 32 := Scalar.subi v1397 c1_i32_574
  let v1399 : Index := Scalar.indexCast v1398
  let c96_575 : Index := 96#32
  let c0_576 : Index := 0#32
  ![v1399.toNat, 96, 0]
def k0_off10 (k0_t1 : Fin k0_t1_loop.trips) : Fin 3 → Nat :=
  let c2_i32_582 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1428 : BitVec 32 := Scalar.muli c2_i32_582 v1270
  let c1_i32_583 : BitVec 32 := 1#32
  let v1429 : BitVec 32 := Scalar.subi v1428 c1_i32_583
  let v1430 : Index := Scalar.indexCast v1429
  let c128_584 : Index := 128#32
  let c0_585 : Index := 0#32
  ![v1430.toNat, 128, 0]
def k0_off11 (k0_t1 : Fin k0_t1_loop.trips) : Fin 3 → Nat :=
  let c2_i32_586 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1434 : BitVec 32 := Scalar.muli c2_i32_586 v1270
  let c1_i32_587 : BitVec 32 := 1#32
  let v1435 : BitVec 32 := Scalar.addi v1434 c1_i32_587
  let c1_i32_588 : BitVec 32 := 1#32
  let v1436 : BitVec 32 := Scalar.subi v1435 c1_i32_588
  let v1437 : Index := Scalar.indexCast v1436
  let c128_589 : Index := 128#32
  let c0_590 : Index := 0#32
  ![v1437.toNat, 128, 0]
def k0_off12 (k0_t1 : Fin k0_t1_loop.trips) : Fin 3 → Nat :=
  let c2_i32_596 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1466 : BitVec 32 := Scalar.muli c2_i32_596 v1270
  let c1_i32_597 : BitVec 32 := 1#32
  let v1467 : BitVec 32 := Scalar.subi v1466 c1_i32_597
  let v1468 : Index := Scalar.indexCast v1467
  let c160_598 : Index := 160#32
  let c0_599 : Index := 0#32
  ![v1468.toNat, 160, 0]
def k0_off13 (k0_t1 : Fin k0_t1_loop.trips) : Fin 3 → Nat :=
  let c2_i32_600 : BitVec 32 := 2#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1472 : BitVec 32 := Scalar.muli c2_i32_600 v1270
  let c1_i32_601 : BitVec 32 := 1#32
  let v1473 : BitVec 32 := Scalar.addi v1472 c1_i32_601
  let c1_i32_602 : BitVec 32 := 1#32
  let v1474 : BitVec 32 := Scalar.subi v1473 c1_i32_602
  let v1475 : Index := Scalar.indexCast v1474
  let c160_603 : Index := 160#32
  let c0_604 : Index := 0#32
  ![v1475.toNat, 160, 0]
def k0_off14 (k0_t1 : Fin k0_t1_loop.trips) : Fin 4 → Nat :=
  let c0_615 : Index := 0#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1526 : Index := Scalar.indexCast v1270
  let c0_616 : Index := 0#32
  ![0, v1526.toNat, 0, 0]
def k0_off15 (k0_t1 : Fin k0_t1_loop.trips) : Fin 4 → Nat :=
  let c1_617 : Index := 1#32
  let c1_i32_523 : BitVec 32 := 1#32
  let c0_i32_323 : BitVec 32 := 0#32
  let c1_i32_325 : BitVec 32 := 1#32
  let arg15 : BitVec 32 := Scf.iv c0_i32_323 c1_i32_325 k0_t1
  let c1_i32_522 : BitVec 32 := 1#32
  let v1269 : BitVec 32 := Scalar.muli arg15 c1_i32_522
  let v1270 : BitVec 32 := Scalar.addi c1_i32_523 v1269
  let v1530 : Index := Scalar.indexCast v1270
  let c0_618 : Index := 0#32
  ![1, v1530.toNat, 0, 0]
@[reducible] def k0_t2_loop : Scf.Loop 32 :=
  let c0_i32_327 : BitVec 32 := 0#32
  let c64_i32 : BitVec 32 := 64#32
  let v673 : BitVec 32 := Scalar.addi c0_i32_327 c64_i32
  let c1_i32_328 : BitVec 32 := 1#32
  ⟨c0_i32_327, v673, c1_i32_328⟩
def k0_off16 (k0_t2 : Fin k0_t2_loop.trips) (c0_i32_525 : BitVec 32) : Fin 4 → Nat :=
  let c0_526 : Index := 0#32
  let c28_i32 : BitVec 32 := 28#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1272 : BitVec 32 := Scalar.muli c28_i32 v1270
  let v1273 : BitVec 32 := Scalar.addi v1272 c0_i32_525
  let v1274 : Index := Scalar.indexCast v1273
  let c0_527 : Index := 0#32
  ![0, v1274.toNat, 0, 0]
def k0_off17 (k0_t2 : Fin k0_t2_loop.trips) (c0_i32_525 : BitVec 32) : Fin 4 → Nat :=
  let c1_528 : Index := 1#32
  let c28_i32 : BitVec 32 := 28#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1272 : BitVec 32 := Scalar.muli c28_i32 v1270
  let v1273 : BitVec 32 := Scalar.addi v1272 c0_i32_525
  let v1278 : Index := Scalar.indexCast v1273
  let c0_529 : Index := 0#32
  ![1, v1278.toNat, 0, 0]
def k0_off18 (k0_t2 : Fin k0_t2_loop.trips) (c0_i32_542 : BitVec 32) : Fin 4 → Nat :=
  let c0_543 : Index := 0#32
  let c28_i32_541 : BitVec 32 := 28#32
  let c64_i32_524 : BitVec 32 := 64#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1271 : BitVec 32 := Scalar.addi c64_i32_524 v1270
  let v1305 : BitVec 32 := Scalar.muli c28_i32_541 v1271
  let v1306 : BitVec 32 := Scalar.addi v1305 c0_i32_542
  let v1307 : Index := Scalar.indexCast v1306
  let c0_544 : Index := 0#32
  ![0, v1307.toNat, 0, 0]
def k0_off19 (k0_t2 : Fin k0_t2_loop.trips) (c0_i32_542 : BitVec 32) : Fin 4 → Nat :=
  let c1_545 : Index := 1#32
  let c28_i32_541 : BitVec 32 := 28#32
  let c64_i32_524 : BitVec 32 := 64#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1271 : BitVec 32 := Scalar.addi c64_i32_524 v1270
  let v1305 : BitVec 32 := Scalar.muli c28_i32_541 v1271
  let v1306 : BitVec 32 := Scalar.addi v1305 c0_i32_542
  let v1311 : Index := Scalar.indexCast v1306
  let c0_546 : Index := 0#32
  ![1, v1311.toNat, 0, 0]
def k0_off20 (k0_t2 : Fin k0_t2_loop.trips) : Fin 2 → Nat :=
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1341 : Index := Scalar.indexCast v1270
  let c0_560 : Index := 0#32
  ![v1341.toNat, 0]
def k0_off21 (k0_t2 : Fin k0_t2_loop.trips) : Fin 2 → Nat :=
  let c64_i32_561 : BitVec 32 := 64#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1346 : BitVec 32 := Scalar.addi c64_i32_561 v1270
  let v1347 : Index := Scalar.indexCast v1346
  let c0_562 : Index := 0#32
  ![v1347.toNat, 0]
def k0_off22 (k0_t2 : Fin k0_t2_loop.trips) : Fin 3 → Nat :=
  let c28_i32_563 : BitVec 32 := 28#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1373 : BitVec 32 := Scalar.muli c28_i32_563 v1270
  let v1374 : Index := Scalar.indexCast v1373
  let c0_564 : Index := 0#32
  ![v1374.toNat, 0, 0]
def k0_off23 (k0_t2 : Fin k0_t2_loop.trips) (c8_i32_566 : BitVec 32) : Fin 3 → Nat :=
  let c28_i32_565 : BitVec 32 := 28#32
  let c0_i32_523 : BitVec 32 := 0#32
  let c0_i32_327 : BitVec 32 := 0#32
  let c1_i32_328 : BitVec 32 := 1#32
  let arg15 : BitVec 32 := Scf.iv c0_i32_327 c1_i32_328 k0_t2
  let c1_i32_522 : BitVec 32 := 1#32
  let v1269 : BitVec 32 := Scalar.muli arg15 c1_i32_522
  let v1270 : BitVec 32 := Scalar.addi c0_i32_523 v1269
  let v1379 : BitVec 32 := Scalar.muli c28_i32_565 v1270
  let v1380 : BitVec 32 := Scalar.addi v1379 c8_i32_566
  let v1381 : Index := Scalar.indexCast v1380
  let c0_567 : Index := 0#32
  ![v1381.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S47x192x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x47x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1320x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S47x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x47x192 : Shape := ⟨3, ![8192, 47, 192]⟩
abbrev S8192x47x6 : Shape := ⟨3, ![8192, 47, 6]⟩
abbrev S8192x192 : Shape := ⟨2, ![8192, 192]⟩
abbrev S1128 : Shape := ⟨1, ![1128]⟩
abbrev S8192x6x32 : Shape := ⟨3, ![8192, 6, 32]⟩
abbrev S_ : Shape := ⟨0, ![]⟩
abbrev S8192x6 : Shape := ⟨2, ![8192, 6]⟩
abbrev S8192x6x1 : Shape := ⟨3, ![8192, 6, 1]⟩
abbrev S8192x1x192 : Shape := ⟨3, ![8192, 1, 192]⟩
abbrev S8192x48x192 : Shape := ⟨3, ![8192, 48, 192]⟩
abbrev S8192x1x6 : Shape := ⟨3, ![8192, 1, 6]⟩
abbrev S8192x48x6 : Shape := ⟨3, ![8192, 48, 6]⟩
abbrev S8192x48x6x32 : Shape := ⟨4, ![8192, 48, 6, 32]⟩
abbrev S8192x48x6x1 : Shape := ⟨4, ![8192, 48, 6, 1]⟩
abbrev S8192x48x48 : Shape := ⟨3, ![8192, 48, 48]⟩
abbrev S1128x1 : Shape := ⟨2, ![1128, 1]⟩
abbrev S1128x2 : Shape := ⟨2, ![1128, 2]⟩
abbrev S8192x1128 : Shape := ⟨2, ![8192, 1128]⟩
abbrev S8192x1320 : Shape := ⟨2, ![8192, 1320]⟩
abbrev S8192x47x1 : Shape := ⟨3, ![8192, 47, 1]⟩
abbrev S8192x47 : Shape := ⟨2, ![8192, 47]⟩

abbrev nBuf : Space → Nat
  | .hbm => 78
  | .vmem => 5
  | .smem => 0
  | _ => 0

abbrev bufTy : (tb : Table) → Fin (tcTables nBuf tb) → BufTy
  | .hbm, ⟨0, _⟩ => ⟨S8192x47x192, .fp8e4m3⟩
  | .hbm, ⟨1, _⟩ => ⟨S8192x47x6, .f32⟩
  | .hbm, ⟨2, _⟩ => ⟨S8192x192, .bf16⟩
  | .hbm, ⟨3, _⟩ => ⟨S1128, .i32⟩
  | .hbm, ⟨4, _⟩ => ⟨S1128, .i1⟩
  | .hbm, ⟨5, _⟩ => ⟨S1128, .i32⟩
  | .hbm, ⟨6, _⟩ => ⟨S1128, .i1⟩
  | .hbm, ⟨7, _⟩ => ⟨S8192x192, .f32⟩
  | .hbm, ⟨8, _⟩ => ⟨S8192x6x32, .f32⟩
  | .hbm, ⟨9, _⟩ => ⟨S8192x6x32, .f32⟩
  | .hbm, ⟨10, _⟩ => ⟨S_, .f32⟩
  | .hbm, ⟨11, _⟩ => ⟨S8192x6, .f32⟩
  | .hbm, ⟨12, _⟩ => ⟨S_, .f32⟩
  | .hbm, ⟨13, _⟩ => ⟨S8192x6, .f32⟩
  | .hbm, ⟨14, _⟩ => ⟨S8192x6, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x6, .f32⟩
  | .hbm, ⟨19, _⟩ => ⟨S8192x6, .i1⟩
  | .hbm, ⟨20, _⟩ => ⟨S_, .f32⟩
  | .hbm, ⟨21, _⟩ => ⟨S8192x6, .f32⟩
  | .hbm, ⟨22, _⟩ => ⟨S8192x6, .f32⟩
  | .hbm, ⟨23, _⟩ => ⟨S8192x6, .f32⟩
  | .hbm, ⟨24, _⟩ => ⟨S8192x6, .f32⟩
  | .hbm, ⟨25, _⟩ => ⟨S8192x6, .f32⟩
  | .hbm, ⟨26, _⟩ => ⟨S_, .f32⟩
  | .hbm, ⟨27, _⟩ => ⟨S8192x6, .f32⟩
  | .hbm, ⟨28, _⟩ => ⟨S8192x6, .f32⟩
  | .hbm, ⟨29, _⟩ => ⟨S8192x6, .f32⟩
  | .hbm, ⟨30, _⟩ => ⟨S8192x6, .f32⟩
  | .hbm, ⟨31, _⟩ => ⟨S8192x6, .f32⟩
  | .hbm, ⟨32, _⟩ => ⟨S8192x6, .f32⟩
  | .hbm, ⟨33, _⟩ => ⟨S8192x6, .f32⟩
  | .hbm, ⟨34, _⟩ => ⟨S8192x6, .f32⟩
  | .hbm, ⟨35, _⟩ => ⟨S8192x6, .f32⟩
  | .hbm, ⟨36, _⟩ => ⟨S8192x6, .f32⟩
  | .hbm, ⟨37, _⟩ => ⟨S8192x6x1, .f32⟩
  | .hbm, ⟨38, _⟩ => ⟨S8192x6x32, .f32⟩
  | .hbm, ⟨39, _⟩ => ⟨S8192x6x32, .f32⟩
  | .hbm, ⟨40, _⟩ => ⟨S_, .f32⟩
  | .hbm, ⟨41, _⟩ => ⟨S8192x6x32, .f32⟩
  | .hbm, ⟨42, _⟩ => ⟨S8192x6x32, .f32⟩
  | .hbm, ⟨43, _⟩ => ⟨S_, .f32⟩
  | .hbm, ⟨44, _⟩ => ⟨S8192x6x32, .f32⟩
  | .hbm, ⟨45, _⟩ => ⟨S8192x6x32, .f32⟩
  | .hbm, ⟨46, _⟩ => ⟨S8192x192, .f32⟩
  | .hbm, ⟨47, _⟩ => ⟨S8192x192, .fp8e4m3⟩
  | .hbm, ⟨48, _⟩ => ⟨S8192x192, .bf16⟩
  | .hbm, ⟨49, _⟩ => ⟨S8192x47x192, .bf16⟩
  | .hbm, ⟨50, _⟩ => ⟨S8192x1x192, .bf16⟩
  | .hbm, ⟨51, _⟩ => ⟨S8192x48x192, .bf16⟩
  | .hbm, ⟨52, _⟩ => ⟨S8192x1x6, .f32⟩
  | .hbm, ⟨53, _⟩ => ⟨S8192x48x6, .f32⟩
  | .hbm, ⟨54, _⟩ => ⟨S8192x48x6x32, .bf16⟩
  | .hbm, ⟨55, _⟩ => ⟨S8192x48x6, .bf16⟩
  | .hbm, ⟨56, _⟩ => ⟨S8192x48x6x1, .bf16⟩
  | .hbm, ⟨57, _⟩ => ⟨S8192x48x6x32, .bf16⟩
  | .hbm, ⟨58, _⟩ => ⟨S8192x48x6x32, .bf16⟩
  | .hbm, ⟨59, _⟩ => ⟨S8192x48x192, .bf16⟩
  | .hbm, ⟨60, _⟩ => ⟨S8192x48x48, .f32⟩
  | .hbm, ⟨61, _⟩ => ⟨S_, .i32⟩
  | .hbm, ⟨62, _⟩ => ⟨S1128, .i32⟩
  | .hbm, ⟨63, _⟩ => ⟨S1128, .i32⟩
  | .hbm, ⟨64, _⟩ => ⟨S1128, .i32⟩
  | .hbm, ⟨65, _⟩ => ⟨S_, .i32⟩
  | .hbm, ⟨66, _⟩ => ⟨S1128, .i32⟩
  | .hbm, ⟨67, _⟩ => ⟨S1128, .i32⟩
  | .hbm, ⟨68, _⟩ => ⟨S1128, .i32⟩
  | .hbm, ⟨69, _⟩ => ⟨S1128x1, .i32⟩
  | .hbm, ⟨70, _⟩ => ⟨S1128x1, .i32⟩
  | .hbm, ⟨71, _⟩ => ⟨S1128x2, .i32⟩
  | .hbm, ⟨72, _⟩ => ⟨S8192x1128, .f32⟩
  | .hbm, ⟨73, _⟩ => ⟨S8192x192, .f32⟩
  | .hbm, ⟨74, _⟩ => ⟨S8192x1320, .f32⟩
  | .hbm, ⟨75, _⟩ => ⟨S8192x1320, .bf16⟩
  | .hbm, ⟨76, _⟩ => ⟨S8192x47x1, .f32⟩
  | .hbm, ⟨77, _⟩ => ⟨S8192x47, .f32⟩
  | .local _ .vmem, ⟨0, _⟩ => ⟨S8192x192, .f32⟩
  | .local _ .vmem, ⟨1, _⟩ => ⟨S8192x47x192, .fp8e4m3⟩
  | .local _ .vmem, ⟨2, _⟩ => ⟨S8192x192, .fp8e4m3⟩
  | .local _ .vmem, ⟨3, _⟩ => ⟨S8192x192, .bf16⟩
  | .local _ .vmem, ⟨4, _⟩ => ⟨S8192x47x192, .bf16⟩
  | _, _ => ⟨S8192x47x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_3 : Ref sig .tc := ⟨.hbm, 12, rfl⟩
abbrev main_v4 : Ref sig .tc := ⟨.hbm, 13, rfl⟩
abbrev main_v5 : Ref sig .tc := ⟨.hbm, 14, rfl⟩
abbrev main_cst_4 : Ref sig .tc := ⟨.hbm, 15, rfl⟩
abbrev main_v6 : Ref sig .tc := ⟨.hbm, 16, rfl⟩
abbrev main_cst_5 : Ref sig .tc := ⟨.hbm, 17, rfl⟩
abbrev main_v7 : Ref sig .tc := ⟨.hbm, 18, rfl⟩
abbrev main_v8 : Ref sig .tc := ⟨.hbm, 19, rfl⟩
abbrev main_cst_6 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_7 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x47x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x47x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.Loop.lean ====
/-
  The dequantise loop of the kernel, gone through by an invariant: one trip at a symbolic word `w`, the pieces
  it writes into the unpacked operand kept in a list, and the list of the trips before `k`.
-/
module

public import proofs.«01_k».proof.Proof.Gen.Kernel.Loops

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- One trip's resources: the codes and the packed scales, read; the unpacked operand, written. -/
abbrev TripW (c : Dev nD) (arg1 : Memref sig .tc .vmem S47x192x128 .fp8e4m3) (arg9 : Memref sig .tc .vmem S144x128 .i32) (arg10 : Memref sig .tc .vmem S2x3584x128 .i32)
    (X1 : BufTy.Contents (Elt F) arg1.view.ty) (X9 : BufTy.Contents (Elt F) arg9.view.ty) (f : BufTy.Contents (Elt F) arg10.view.ty) : sProp 𝕄G :=
  iprop((arg1.view.loc (c : Thread nD τ) ↦[arg1.view.set]{fullShare} X1) ∗ (arg9.view.loc (c : Thread nD τ) ↦[arg9.view.set]{fullShare} X9) ∗ (arg10.view.loc (c : Thread nD τ) ↦[arg10.view.set]{fullShare} f))

/-- One trip at a symbolic word, with the pieces it writes. -/
@[irreducible] def tripW (𝒱 : Variants) (c : Dev nD) (bd : Option 𝒱.V) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x128 .i32) (harg9 : arg9.IsWhole) (arg10 : Memref sig .tc .vmem S2x3584x128 .i32) (harg10 : arg10.IsWhole) (arg11 : Memref sig .tc .vmem S1792x128 .i32) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (v655 : IVec S128x128 32) (v658 : IVec S128x128 32) (v660 : IVec S128x128 32) (X1 : BufTy.Contents (Elt F) arg1.view.ty) (X9 : BufTy.Contents (Elt F) arg9.view.ty) (k : Fin k0_t1_loop.trips) :
    { L : List (View.Piece (Elt F) S2x3584x128 .i32) // ∀ (E : Set ℕ) (f : BufTy.Contents (Elt F) arg10.view.ty),
      TripW (F := F) c arg1 arg9 arg10 X1 X9 f
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v655 v658 v660 k PUnit.unit)
          (fun _ => TripW (F := F) c arg1 arg9 arg10 X1 X9 (arg10.view.writes (Elt F) f L)) } := by
  have hk : k.val < 23 := Nat.lt_of_lt_of_le k.isLt k0_t1_abs.2.1
  refine ⟨?_, fun E f => ?run⟩
  case run =>
    unfold k0_t1_body
    iintro ⟨H1, H9, HW⟩
    sl_exec
    sl_step
    sl_close

/-- The pieces of the trips before `k`, the last first. -/
def piecesW (𝒱 : Variants) (c : Dev nD) (bd : Option 𝒱.V) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x128 .i32) (harg9 : arg9.IsWhole) (arg10 : Memref sig .tc .vmem S2x3584x128 .i32) (harg10 : arg10.IsWhole) (arg11 : Memref sig .tc .vmem S1792x128 .i32) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (v655 : IVec S128x128 32) (v658 : IVec S128x128 32) (v660 : IVec S128x128 32) (X1 : BufTy.Contents (Elt F) arg1.view.ty) (X9 : BufTy.Contents (Elt F) arg9.view.ty) : ℕ → List (View.Piece (Elt F) S2x3584x128 .i32)
  | 0 => []
  | k + 1 => if h : k < k0_t1_loop.trips then (tripW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655 v658 v660 X1 X9 ⟨k, h⟩).1 ++ piecesW 𝒱 c bd i arg1 harg1 arg2 harg2 arg3 harg3 arg4 harg4 arg5 harg5 arg6 harg6 arg7 harg7 arg8 harg8 arg9 harg9 arg10 harg10 arg11 harg11 arg12 harg12 arg13 harg13 arg14 harg14 v655 v658 v660 X1 X9 k else piecesW 𝒱 c bd i arg1 harg1 arg2 harg2 arg3 harg3 arg4 harg4 arg5 harg5 arg6 harg6 arg7 harg7 arg8 harg8 arg9 harg9 arg10 harg10 arg11 harg11 arg12 harg12 arg13 harg13 arg14 harg14 v655 v658 v660 X1 X9 k

theorem piecesW_succ (𝒱 : Variants) (c : Dev nD) (bd : Option 𝒱.V) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x128 .i32) (harg9 : arg9.IsWhole) (arg10 : Memref sig .tc .vmem S2x3584x128 .i32) (harg10 : arg10.IsWhole) (arg11 : Memref sig .tc .vmem S1792x128 .i32) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (v655 : IVec S128x128 32) (v658 : IVec S128x128 32) (v660 : IVec S128x128 32) (X1 : BufTy.Contents (Elt F) arg1.view.ty) (X9 : BufTy.Contents (Elt F) arg9.view.ty) (k : Fin k0_t1_loop.trips) :
    piecesW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655 v658 v660 X1 X9 (k.val + 1) = (tripW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655 v658 v660 X1 X9 k).1 ++ piecesW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655 v658 v660 X1 X9 k.val := by
  rw [piecesW.eq_2]; exact dif_pos k.isLt

set_option warn.classDefReducibility false in
/-- The dequantise loop by its invariant. -/
@[sl_loop] def loopInvW (𝒱 : Variants) (c : Dev nD) (bd : Option 𝒱.V) (E : Set ℕ) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x128 .i32) (harg9 : arg9.IsWhole) (arg10 : Memref sig .tc .vmem S2x3584x128 .i32) (harg10 : arg10.IsWhole) (arg11 : Memref sig .tc .vmem S1792x128 .i32) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (v655 : IVec S128x128 32) (v658 : IVec S128x128 32) (v660 : IVec S128x128 32) (X1 : BufTy.Contents (Elt F) arg1.view.ty) (X9 : BufTy.Contents (Elt F) arg9.view.ty) (G : BufTy.Contents (Elt F) arg10.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v655 v658 v660 where
  inv k _ := iprop((arg1.view.loc (c : Thread nD τ) ↦[arg1.view.set]{fullShare} X1) ∗ (arg9.view.loc (c : Thread nD τ) ↦[arg9.view.set]{fullShare} X9)
    ∗ (∃ f, (arg10.view.loc (c : Thread nD τ) ↦[arg10.view.set]{fullShare} f) ∗ ⌜f = arg10.view.writes (Elt F) G (piecesW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655 v658 v660 X1 X9 k)⌝))
  step k acc := by
    iintro ⟨H1, H9, ⟨%f, HW, %hf⟩⟩
    iapply (wp_wand_r Idealize.ShloMosaic.frame (wpE (defs₀ (F := F)) 𝒱 (c : Thread nD τ) bd) E)
    isplitl [H1 H9 HW]
    · iapply ((tripW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655 v658 v660 X1 X9 k).2 E f)
      isplitl [H1]; · iexact H1
      isplitl [H9]; · iexact H9
      iexact HW
    · iintro %_ ⟨H1, H9, HW⟩
      isplitl [H1]; · iexact H1
      isplitl [H9]; · iexact H9
      rw [piecesW_succ]
      iexists _; isplitl [HW]; · iexact HW
      ipureintro; rw [hf, ← View.writes_append]

end Cert.Kernel.Hand

end
-- ==== Proof.Kernel.Frame.lean ====
/-
  The frame of the kernel: every execution ends, the argument arrays end unchanged and every semaphore counter
  ends at zero. What the body leaves in its results and in its scratch is not named here.
-/
module

public import proofs.«01_k».proof.Proof.Kernel.Loop
public import proofs.«01_k».proof.Proof.Gen.Kernel.Frame
public import proofs.«01_k».proof.Proof.Gen.Kernel.Points
public import Idealize.ShloMosaic.Lib.Pipeline.FrameBody
public import Idealize.ShloMosaic.Lib.Pipeline.FrameSuffix

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The kernel body on whole memrefs: the three inputs are read, everything else is written at some contents. -/
theorem sound_kernel (c : Dev nD) (E : Set ℕ) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x128 .i32) (harg9 : arg9.IsWhole) (arg10 : Memref sig .tc .vmem S2x3584x128 .i32) (harg10 : arg10.IsWhole) (arg11 : Memref sig .tc .vmem S1792x128 .i32) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (x1 : Vec F S47x192x128 .fp8e4m3) (x2 : Vec F S6x47x128 .f32) (x3 : Vec F S192x128 .bf16) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_dot_interaction i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_dot_interaction_eq_skeleton]; unfold cc0_dot_interaction_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

/-- The proof data: the inputs at their blocks, the four results forgotten, the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
    | ⟨4, _⟩ => fun _ => Classical.arbitrary _
    | ⟨5, _⟩ => fun _ => Classical.arbitrary _
    | ⟨6, _⟩ => fun _ => Classical.arbitrary _
  Φ _ := Pipeline.ΦA spec0 c
  q _ := fullShare
  owed _ := 0

/-- The results nothing is said of. -/
abbrev fgt : Fin 7 → Bool := fun w => decide (3 ≤ w.val)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem defs₀_row (t : Fin cfg0.N) :
    defs₀ (F := F) .tc cfg0.body (cfg0.bodyArgs t (cfg0.slots t)) = bodyAt0 t := by
  unfold defs₀; rw [Defs.onTc_tc]

/-- The scratch buffers, each held whole at some contents. -/
theorem PhiA_eq (c : Dev nD) :
    (Pipeline.ΦA spec0 c : sProp 𝕄)
      = iprop(iprop((∃ d, owns (c : Thread nD τ) (Memref.whole cc0_scratch0 : Memref sig .tc .vmem S288x128 .f32) fullShare d) ∗ (∃ d, owns (c : Thread nD τ) (Memref.whole cc0_scratch1 : Memref sig .tc .vmem S144x128 .i32) fullShare d) ∗ (∃ d, owns (c : Thread nD τ) (Memref.whole cc0_scratch2 : Memref sig .tc .vmem S2x3584x128 .i32) fullShare d) ∗ (∃ d, owns (c : Thread nD τ) (Memref.whole cc0_scratch3 : Memref sig .tc .vmem S1792x128 .i32) fullShare d) ∗ (∃ d, owns (c : Thread nD τ) (Memref.whole cc0_scratch4 : Memref sig .tc .vmem S128x128 .f32) fullShare d) ∗ (∃ d, owns (c : Thread nD τ) (Memref.whole cc0_scratch5 : Memref sig .tc .vmem S1128x128 .f32) fullShare d) ∗ (∃ d, owns (c : Thread nD τ) (Memref.whole cc0_scratch6 : Memref sig .tc .vmem S48x128 .f32) fullShare d)) ∗ (∃ r, prngReg c r)) := by
  rw [show (Pipeline.ΦA spec0 c : sProp 𝕄) = iprop(Pipeline.scopedRest spec0 c ∗ (∃ r, prngReg c r)) from rfl, scopedRest0_eq]
  simp only [owns_whole]; try rfl

set_option maxHeartbeats 4000000 in
/-- The body at any point of the grid. -/
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))
    ⊢ wp frame (wpE (defs₀ (F := F)) Variants.none c none) Set.univ (bodyAt0 t) (fun _ =>
      iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))) := by
  unfold bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA_eq]
  iintro ⟨⟨⟨S8, S9, S10, S11, S12, S13, S14⟩, Hr⟩, Ho, ⟨%d0, H0⟩, ⟨%d1, H1⟩, ⟨%d2, H2⟩, H3, H4, H5, H6⟩
  iapply (sound_kernel c Set.univ _ _ _ _ _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S8]; · iexact S8
  isplitl [S9]; · iexact S9
  isplitl [S10]; · iexact S10
  isplitl [S11]; · iexact S11
  isplitl [S12]; · iexact S12
  isplitl [S13]; · iexact S13
  isplitl [S14]; · iexact S14
  iintro ⟨H0, H1, H2, H3, H4, H5, H6, S8, S9, S10, S11, S12, S13, S14⟩
  isplitl [S8 S9 S10 S11 S12 S13 S14 Hr]
  · isplitr [Hr]
    · isplitl [S8]; · iexact S8
      isplitl [S9]; · iexact S9
      isplitl [S10]; · iexact S10
      isplitl [S11]; · iexact S11
      isplitl [S12]; · iexact S12
      isplitl [S13]; · iexact S13
      iexact S14
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, the results forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- The buffers that @main writes after the region: the four results. -/
abbrev T : Finset (Ref sig .tc) := {main_v4, main_v5, main_v6, main_v7}

theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  · simp only [hostOps1, List.mem_cons, List.mem_nil_iff, or_false] at hop
    rcases hop with rfl | rfl | rfl | rfl
    all_goals
      intro b hb
      simp only [StableHlo.unary_writes, Finset.mem_singleton] at hb
      have := Proc.devRef_injective .tc hb
      subst this
      decide

set_option backward.isDefEq.respectTransparency.types false in
set_option maxHeartbeats 800000 in
/-- Every execution ends, with every buffer outside the results at its contents before the region and every
    semaphore counter at zero. -/
theorem run_main : θ_run defs (onTc (τ := τ) (main (F := F))) (s₀ m ρ)
    (fun r => Pipeline.RDat.FramePostR (cfgs 0) (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)
    (run_main m ρ)

end Cert.Kernel.Hand

end
-- ==== Proof.KernelIdeal.Loop.lean ====
/-
  The dequantise loop of the kernel, gone through by an invariant: one trip at a symbolic word `w`, the pieces
  it writes into the unpacked operand kept in a list, and the list of the trips before `k`.
-/
module

public import proofs.«01_k».proof.Proof.Gen.KernelIdeal.Loops

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources: the codes and the packed scales, read; the unpacked operand, written. -/
abbrev TripW (c : Dev nD) (arg1 : Memref sig .tc .vmem S47x192x128 .fp8e4m3) (arg9 : Memref sig .tc .vmem S144x2x128 .bf16) (arg10 : Memref sig .tc .vmem S2x3584x2x128 .bf16)
    (X1 : BufTy.Contents (Elt F) arg1.view.ty) (X9 : BufTy.Contents (Elt F) arg9.view.ty) (f : BufTy.Contents (Elt F) arg10.view.ty) : sProp 𝕄G :=
  iprop((arg1.view.loc (c : Thread nD τ) ↦[arg1.view.set]{fullShare} X1) ∗ (arg9.view.loc (c : Thread nD τ) ↦[arg9.view.set]{fullShare} X9) ∗ (arg10.view.loc (c : Thread nD τ) ↦[arg10.view.set]{fullShare} f))

/-- One trip at a symbolic word, with the pieces it writes. -/
@[irreducible] def tripW (𝒱 : Variants) (c : Dev nD) (bd : Option 𝒱.V) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (v655_lo : FVec F S128x128 .bf16) (v655_hi : FVec F S128x128 .bf16) (v656_lo : FVec F S128x128 .bf16) (v656_hi : FVec F S128x128 .bf16) (X1 : BufTy.Contents (Elt F) arg1.view.ty) (X9 : BufTy.Contents (Elt F) arg9.view.ty) (k : Fin k0_t1_loop.trips) :
    { L : List (View.Piece (Elt F) S2x3584x2x128 .bf16) // ∀ (E : Set ℕ) (f : BufTy.Contents (Elt F) arg10.view.ty),
      TripW (F := F) c arg1 arg9 arg10 X1 X9 f
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi k PUnit.unit)
          (fun _ => TripW (F := F) c arg1 arg9 arg10 X1 X9 (arg10.view.writes (Elt F) f L)) } := by
  have hk : k.val < 23 := Nat.lt_of_lt_of_le k.isLt k0_t1_abs.2.1
  refine ⟨?_, fun E f => ?run⟩
  case run =>
    unfold k0_t1_body
    iintro ⟨H1, H9, HW⟩
    sl_exec
    sl_step
    sl_close

/-- The pieces of the trips before `k`, the last first. -/
def piecesW (𝒱 : Variants) (c : Dev nD) (bd : Option 𝒱.V) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (v655_lo : FVec F S128x128 .bf16) (v655_hi : FVec F S128x128 .bf16) (v656_lo : FVec F S128x128 .bf16) (v656_hi : FVec F S128x128 .bf16) (X1 : BufTy.Contents (Elt F) arg1.view.ty) (X9 : BufTy.Contents (Elt F) arg9.view.ty) : ℕ → List (View.Piece (Elt F) S2x3584x2x128 .bf16)
  | 0 => []
  | k + 1 => if h : k < k0_t1_loop.trips then (tripW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi X1 X9 ⟨k, h⟩).1 ++ piecesW 𝒱 c bd i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi X1 X9 k else piecesW 𝒱 c bd i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi X1 X9 k

theorem piecesW_succ (𝒱 : Variants) (c : Dev nD) (bd : Option 𝒱.V) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (v655_lo : FVec F S128x128 .bf16) (v655_hi : FVec F S128x128 .bf16) (v656_lo : FVec F S128x128 .bf16) (v656_hi : FVec F S128x128 .bf16) (X1 : BufTy.Contents (Elt F) arg1.view.ty) (X9 : BufTy.Contents (Elt F) arg9.view.ty) (k : Fin k0_t1_loop.trips) :
    piecesW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi X1 X9 (k.val + 1) = (tripW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi X1 X9 k).1 ++ piecesW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi X1 X9 k.val := by
  rw [piecesW.eq_2]; exact dif_pos k.isLt

set_option warn.classDefReducibility false in
/-- The dequantise loop by its invariant. -/
@[sl_loop] def loopInvW (𝒱 : Variants) (c : Dev nD) (bd : Option 𝒱.V) (E : Set ℕ) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (v655_lo : FVec F S128x128 .bf16) (v655_hi : FVec F S128x128 .bf16) (v656_lo : FVec F S128x128 .bf16) (v656_hi : FVec F S128x128 .bf16) (X1 : BufTy.Contents (Elt F) arg1.view.ty) (X9 : BufTy.Contents (Elt F) arg9.view.ty) (G : BufTy.Contents (Elt F) arg10.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi where
  inv k _ := iprop((arg1.view.loc (c : Thread nD τ) ↦[arg1.view.set]{fullShare} X1) ∗ (arg9.view.loc (c : Thread nD τ) ↦[arg9.view.set]{fullShare} X9)
    ∗ (∃ f, (arg10.view.loc (c : Thread nD τ) ↦[arg10.view.set]{fullShare} f) ∗ ⌜f = arg10.view.writes (Elt F) G (piecesW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi X1 X9 k)⌝))
  step k acc := by
    iintro ⟨H1, H9, ⟨%f, HW, %hf⟩⟩
    iapply (wp_wand_r Idealize.ShloMosaic.frame (wpE (defs₀ (F := F)) 𝒱 (c : Thread nD τ) bd) E)
    isplitl [H1 H9 HW]
    · iapply ((tripW (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v655_lo v655_hi v656_lo v656_hi X1 X9 k).2 E f)
      isplitl [H1]; · iexact H1
      isplitl [H9]; · iexact H9
      iexact HW
    · iintro %_ ⟨H1, H9, HW⟩
      isplitl [H1]; · iexact H1
      isplitl [H9]; · iexact H9
      rw [piecesW_succ]
      iexists _; isplitl [HW]; · iexact HW
      ipureintro; rw [hf, ← View.writes_append]

end Cert.KernelIdeal.Hand

end
-- ==== Proof.KernelIdeal.Frame.lean ====
/-
  The frame of the kernel: every execution ends, the argument arrays end unchanged and every semaphore counter
  ends at zero. What the body leaves in its results and in its scratch is not named here.
-/
module

public import proofs.«01_k».proof.Proof.KernelIdeal.Loop
public import proofs.«01_k».proof.Proof.Gen.KernelIdeal.Frame
public import proofs.«01_k».proof.Proof.Gen.KernelIdeal.Points
public import Idealize.ShloMosaic.Lib.Pipeline.FrameBody
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The kernel body on whole memrefs: the three inputs are read, everything else is written at some contents. -/
theorem sound_kernel (c : Dev nD) (E : Set ℕ) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (x1 : Vec F S47x192x128 .fp8e4m3) (x2 : Vec F S6x47x128 .f32) (x3 : Vec F S192x128 .bf16) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_dot_interaction i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_dot_interaction_eq_skeleton]; unfold cc0_dot_interaction_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

/-- The proof data: the inputs at their blocks, the four results forgotten, the scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
    | ⟨4, _⟩ => fun _ => Classical.arbitrary _
    | ⟨5, _⟩ => fun _ => Classical.arbitrary _
    | ⟨6, _⟩ => fun _ => Classical.arbitrary _
  Φ _ := Pipeline.ΦA spec0 c
  q _ := fullShare
  owed _ := 0

/-- The results nothing is said of. -/
abbrev fgt : Fin 7 → Bool := fun w => decide (3 ≤ w.val)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem defs₀_row (t : Fin cfg0.N) :
    defs₀ (F := F) .tc cfg0.body (cfg0.bodyArgs t (cfg0.slots t)) = bodyAt0 t := by
  unfold defs₀; rw [Defs.onTc_tc]

/-- The scratch buffers, each held whole at some contents. -/
theorem PhiA_eq (c : Dev nD) :
    (Pipeline.ΦA spec0 c : sProp 𝕄)
      = iprop(iprop((∃ d, owns (c : Thread nD τ) (Memref.whole cc0_scratch0 : Memref sig .tc .vmem S288x128 .f32) fullShare d) ∗ (∃ d, owns (c : Thread nD τ) (Memref.whole cc0_scratch1 : Memref sig .tc .vmem S144x2x128 .bf16) fullShare d) ∗ (∃ d, owns (c : Thread nD τ) (Memref.whole cc0_scratch2 : Memref sig .tc .vmem S2x3584x2x128 .bf16) fullShare d) ∗ (∃ d, owns (c : Thread nD τ) (Memref.whole cc0_scratch3 : Memref sig .tc .vmem S1792x2x128 .bf16) fullShare d) ∗ (∃ d, owns (c : Thread nD τ) (Memref.whole cc0_scratch4 : Memref sig .tc .vmem S128x128 .f32) fullShare d) ∗ (∃ d, owns (c : Thread nD τ) (Memref.whole cc0_scratch5 : Memref sig .tc .vmem S1128x128 .f32) fullShare d) ∗ (∃ d, owns (c : Thread nD τ) (Memref.whole cc0_scratch6 : Memref sig .tc .vmem S48x128 .f32) fullShare d)) ∗ (∃ r, prngReg c r)) := by
  rw [show (Pipeline.ΦA spec0 c : sProp 𝕄) = iprop(Pipeline.scopedRest spec0 c ∗ (∃ r, prngReg c r)) from rfl, scopedRest0_eq]
  simp only [owns_whole]; try rfl

set_option maxHeartbeats 4000000 in
/-- The body at any point of the grid. -/
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))
    ⊢ wp frame (wpE (defs₀ (F := F)) Variants.none c none) Set.univ (bodyAt0 t) (fun _ =>
      iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d))) := by
  unfold bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA_eq]
  iintro ⟨⟨⟨S8, S9, S10, S11, S12, S13, S14⟩, Hr⟩, Ho, ⟨%d0, H0⟩, ⟨%d1, H1⟩, ⟨%d2, H2⟩, H3, H4, H5, H6⟩
  iapply (sound_kernel c Set.univ _ _ _ _ _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S8]; · iexact S8
  isplitl [S9]; · iexact S9
  isplitl [S10]; · iexact S10
  isplitl [S11]; · iexact S11
  isplitl [S12]; · iexact S12
  isplitl [S13]; · iexact S13
  isplitl [S14]; · iexact S14
  iintro ⟨H0, H1, H2, H3, H4, H5, H6, S8, S9, S10, S11, S12, S13, S14⟩
  isplitl [S8 S9 S10 S11 S12 S13 S14 Hr]
  · isplitr [Hr]
    · isplitl [S8]; · iexact S8
      isplitl [S9]; · iexact S9
      isplitl [S10]; · iexact S10
      isplitl [S11]; · iexact S11
      isplitl [S12]; · iexact S12
      isplitl [S13]; · iexact S13
      iexact S14
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, the results forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- The buffers that @main writes after the region: the four results. -/
abbrev T : Finset (Ref sig .tc) := {main_v4, main_v5, main_v6, main_v7}

theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  · simp only [hostOps1, List.mem_cons, List.mem_nil_iff, or_false] at hop
    rcases hop with rfl | rfl | rfl | rfl
    all_goals
      intro b hb
      simp only [StableHlo.unary_writes, Finset.mem_singleton] at hb
      have := Proc.devRef_injective .tc hb
      subst this
      decide

set_option backward.isDefEq.respectTransparency.types false in
set_option maxHeartbeats 800000 in
/-- Every execution ends, with every buffer outside the results at its contents before the region and every
    semaphore counter at zero. -/
theorem run_main : θ_run defs (onTc (τ := τ) (main (F := F))) (s₀ m ρ)
    (fun r => Pipeline.RDat.FramePostR (cfgs 0) (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)
    (run_main m ρ)

end Cert.KernelIdeal.Hand

end
-- ==== Proof.Preserves.lean ====
/- The rewrites of the ideal pass: each is an instance of the `bf16_pair` rule, whose statement at every pair of shapes the
   library proves (Lib/Bf16Pair.lean, Lib/Bf16PairInverse.lean). -/
module

public import proofs.«01_k».proof.Defs
public import Idealize.ShloMosaic.Lib.Bf16Pair
public import Idealize.ShloMosaic.Lib.Bf16PairInverse

@[expose] public section

namespace Cert.Proof

open Idealize.ShloMosaic

/-- The ideal program is the kernel's sanctioned idealization. -/
theorem preserves : Cert.preserves_Kernel_KernelIdeal :=
  ⟨IdealRules.bf16_pair.bufferStatement Cert.KernelIdeal.S144x2x128 Cert.KernelIdeal.S144x1x128,
    IdealRules.bf16_pair.bufferStatement Cert.KernelIdeal.S2x3584x2x128 Cert.KernelIdeal.S2x3584x1x128,
    IdealRules.bf16_pair.bufferStatement Cert.KernelIdeal.S1792x2x128 Cert.KernelIdeal.S1792x1x128,
    IdealRules.bf16_pair.statement Cert.KernelIdeal.S1x3584x2x128 Cert.KernelIdeal.S1x3584x1x128,
    IdealRules.bf16_pair.selectZeroStatement Cert.KernelIdeal.S1x3584x128,
    IdealRules.bf16_pair.statement Cert.KernelIdeal.S1792x2x128 Cert.KernelIdeal.S1792x1x128,
    IdealRules.bf16_pair.selectZeroStatement Cert.KernelIdeal.S1792x128,
    IdealRules.bf16_pair.packStatement Cert.KernelIdeal.S8x128,
    IdealRules.bf16_pair.statement Cert.KernelIdeal.S8x2x128 Cert.KernelIdeal.S8x1x128,
    IdealRules.bf16_pair.statement Cert.KernelIdeal.S1x2x128 Cert.KernelIdeal.S1x1x128,
    IdealRules.bf16_pair.statement Cert.KernelIdeal.S2x128 Cert.KernelIdeal.S1x128,
    IdealRules.bf16_pair.statement Cert.KernelIdeal.S32x128 Cert.KernelIdeal.S16x128,
    IdealRules.bf16_pair.statement Cert.KernelIdeal.S256x128 Cert.KernelIdeal.S128x128,
    IdealRules.bf16_pair.packStatement Cert.KernelIdeal.S128x128,
    IdealRules.bf16_pair.statement Cert.KernelIdeal.S1x128x2x128 Cert.KernelIdeal.S1x128x1x128,
    IdealRules.bf16_pair.statement Cert.KernelIdeal.S1x8x2x128 Cert.KernelIdeal.S1x8x1x128,
    IdealRules.bf16_pair.statement Cert.KernelIdeal.S16x128 Cert.KernelIdeal.S8x128,
    IdealRules.bf16_pair.packStatement Cert.KernelIdeal.S8x96,
    IdealRules.bf16_pair.statement Cert.KernelIdeal.S8x2x96 Cert.KernelIdeal.S8x1x96,
    IdealRules.bf16_pair.statement Cert.KernelIdeal.S64x2x128 Cert.KernelIdeal.S64x1x128,
    IdealRules.bf16_pair.statement Cert.KernelIdeal.S96x128 Cert.KernelIdeal.S48x128,
    IdealRules.bf16_pair.statement Cert.KernelIdeal.S64x128 Cert.KernelIdeal.S32x128,
    IdealRules.bf16_pair.statement Cert.KernelIdeal.S192x128 Cert.KernelIdeal.S96x128,
    IdealRules.bf16_pair.packStatement Cert.KernelIdeal.S564x128,
    IdealRules.bf16_pair.statement Cert.KernelIdeal.S1128x128 Cert.KernelIdeal.S564x128⟩

end Cert.Proof

end
-- ==== Proof.KernelIdeal.Exec.lean ====
/-
  One grid point of the kernel gone through with the contents it leaves in its four results named.
-/
module

public import proofs.«01_k».proof.Proof.KernelIdeal.Loop
public import proofs.«01_k».proof.Proof.Gen.KernelIdeal.Frame
public import proofs.«01_k».proof.Proof.Gen.KernelIdeal.Points
public import Idealize.ShloMosaic.Lib.Pipeline.FrameBody
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The kernel body on whole memrefs, with the contents it leaves in the four results. -/
@[irreducible] def runK (c : Dev nD) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    { R : BufTy.Contents (Elt F) arg4.view.ty × BufTy.Contents (Elt F) arg5.view.ty × BufTy.Contents (Elt F) arg6.view.ty × BufTy.Contents (Elt F) arg7.view.ty // ∀ (E : Set ℕ) (K : PUnit → sProp 𝕄),
      iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} R.1) ∗ (arg5.view.loc (c : Thread nD τ) ↦[arg5.view.set]{fullShare} R.2.1) ∗ (arg6.view.loc (c : Thread nD τ) ↦[arg6.view.set]{fullShare} R.2.2.1) ∗ (arg7.view.loc (c : Thread nD τ) ↦[arg7.view.set]{fullShare} R.2.2.2) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) -∗ K ⟨⟩))
      ⊢ wp frame (wpE (defs₀ (F := F)) Variants.none c none) E (cc0_dot_interaction i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_, ?_, ?_), fun E K => ?run⟩
  case run =>
    simp only [cc0_dot_interaction_eq_skeleton]; unfold cc0_dot_interaction_skel
    iintro ⟨H1, H2, H3, H4, H5, H6, H7, H8, H9, H10, H11, H12, H13, H14, Hk⟩
    sl_exec
    sl_step
    iapply Hk
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _; iexact H14

end Cert.KernelIdeal.Hand

end
-- ==== Proof.KernelIdeal.Quant.lean ====
/-
  The quantiser of the kernel: what it leaves in the codes (argument 6) and in the scales (argument 7), as functions
  of the embeddings' block it reads (argument 3).
-/
module

public import proofs.«01_k».proof.Proof.KernelIdeal.Exec
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The largest magnitude of a group of 32 values. -/
def groupMax (g : Fin 32 → EReal) : EReal :=
  Finset.fold max (Ideal.ofBits FTy.f32 4286578688#32) (fun x => FloatOps.absf (F := Ideal) (φ := .f32) (g x)) Finset.univ

/-- The exponent field the kernel counts out for a magnitude: how many powers of two lie at or below `a / 448`, less one. -/
def biasedBits (a : EReal) : BitVec 32 :=
  IntOp.subi
    (Finset.fold IntOp.addi (0#32)
      (fun x : Fin 256 =>
        if a * Ideal.ofBits FTy.f32 991054117#32
            < Ideal.ofBits FTy.f32 (IntOp.shli ArithUnit.vector (BitVec.ofNat 32 ↑x) 23#32) then
          0#32
        else 1#32)
      Finset.univ)
    1#32

/-- The exponent of a group whose largest magnitude is `a`: zero at an empty or too small group. -/
def expBits (a : EReal) : BitVec 32 :=
  Scalar.select (IntOp.ori (BitVec.ofBool (decide (a = 0))) (IntOp.cmpi CmpIPredicate.eq (biasedBits a) 0#32)) (0#32)
    (IntOp.subi (biasedBits a) 126#32)

/-- The scale of a group. -/
def scaleK (a : EReal) : EReal := Ideal.ofBits FTy.f32 (IntOp.shli ArithUnit.vector (IntOp.addi (expBits a) 127#32) 23#32)

/-- The code of `x` in a group whose largest magnitude is `a`. -/
def codeK (a x : EReal) : EReal :=
  min (Ideal.ofBits FTy.f32 1138753536#32)
    (max (Ideal.ofBits FTy.f32 3286237184#32)
      (x * Ideal.ofBits FTy.f32 (IntOp.shli ArithUnit.vector (IntOp.subi (127#32) (expBits a)) 23#32)))

theorem pay83_apply (v : Vec Ideal S32x128 .bf16) (l : Fin 128) :
    k0_pay83 v (ix2 (0 : Fin 1) l) = expBits (groupMax fun r : Fin 32 => v (ix2 r l)) := by
  pointwise [k0_pay83, k0_pay82]
  rfl

theorem scale_apply (v : Vec Ideal S32x128 .bf16) (l : Fin 128) :
    k0_pay84 v (ix2 (0 : Fin 1) l) = scaleK (groupMax fun r : Fin 32 => v (ix2 r l)) := by
  pointwise [k0_pay84]
  rw [pay83_apply]; rfl

theorem code_apply (v : Vec Ideal S32x128 .bf16) (r : Fin 32) (l : Fin 128) :
    k0_pay86 (k0_pay82 v) (k0_pay85 v) (ix2 r l) = codeK (groupMax fun r : Fin 32 => v (ix2 r l)) (v (ix2 r l)) := by
  pointwise [k0_pay86, k0_pay82, k0_pay85]
  rw [pay83_apply]; rfl

theorem scale1 (v : Vec Ideal S32x128 .bf16) : k0_pay93 (k0_pay89 v) (k0_pay90 v) k0_pay91 = k0_pay84 v := rfl
theorem scale2 (v : Vec Ideal S32x128 .bf16) : k0_pay99 (k0_pay96 v) (k0_pay97 v) = k0_pay84 v := rfl
theorem scale3 (v : Vec Ideal S32x128 .bf16) : k0_pay105 (k0_pay102 v) k0_pay103 = k0_pay84 v := rfl
theorem scale4 (v : Vec Ideal S32x128 .bf16) : k0_pay109 v = k0_pay84 v := rfl
theorem scale5 (v : Vec Ideal S32x128 .bf16) : k0_pay114 (k0_pay113 v) = k0_pay84 v := rfl
theorem code1 (v : Vec Ideal S32x128 .bf16) :
    k0_pay94 (k0_pay87 v) (k0_pay89 v) (k0_pay90 v) k0_pay91 = k0_pay86 (k0_pay82 v) (k0_pay85 v) := rfl
theorem code2 (v : Vec Ideal S32x128 .bf16) :
    k0_pay100 (k0_pay95 v) (k0_pay96 v) (k0_pay97 v) = k0_pay86 (k0_pay82 v) (k0_pay85 v) := rfl
theorem code3 (v : Vec Ideal S32x128 .bf16) :
    k0_pay106 (k0_pay101 v) (k0_pay102 v) k0_pay103 = k0_pay86 (k0_pay82 v) (k0_pay85 v) := rfl
theorem code4 (v : Vec Ideal S32x128 .bf16) :
    k0_pay111 (k0_pay107 v) (k0_pay110 v) = k0_pay86 (k0_pay82 v) (k0_pay85 v) := rfl
theorem code5 (v : Vec Ideal S32x128 .bf16) :
    k0_pay115 (k0_pay112 v) (k0_pay113 v) = k0_pay86 (k0_pay82 v) (k0_pay85 v) := rfl

/-- The largest magnitude in group `k` (rows `32k … 32k+31`) of column `l`. -/
def colMax (X : Vec Ideal S192x128 .bf16) (k : Fin 6) (l : Fin 128) : EReal :=
  groupMax fun r : Fin 32 => X (ix2 (⟨32 * k.val + r.val, by omega⟩ : Fin 192) l)

/-- The scales of a block. -/
def scaleS (X : Vec Ideal S192x128 .bf16) : Vec Ideal S6x128 .f32 := fun y => scaleK (colMax X (y 0) (y 1))

/-- The codes of a block. -/
def codeS (X : Vec Ideal S192x128 .bf16) : Vec Ideal S192x128 .fp8e4m3 := fun y =>
  codeK (colMax X ⟨(y 0).val / 32, by have : (y 0).val < 192 := (y 0).isLt; omega⟩ (y 1)) (X y)

variable (arg3 : Memref sig .tc .vmem S192x128 .bf16) (f3 : BufTy.Contents (Elt Ideal) arg3.view.ty)

/-- A group of the block as the kernel loads it. -/
theorem load3 (o : ℕ) (k : Fin 6) (ho : o = 32 * k.val) (inb) (r : Fin 32) (l : Fin 128) :
    arg3.view.readAt (Elt Ideal) (Rect.unit (s := S192x128) ![o, 0] S32x128.size inb).toLoadRect f3 (ix2 r l)
      = arg3.view.read (Elt Ideal) f3 (ix2 (⟨32 * k.val + r.val, by omega⟩ : Fin 192) l) := by
  subst ho
  rw [View.readAt_eq_ld]
  refine View.ld_unit_apply_of _ _ _ _ _ _ fun a => ?_
  fin_cases a
  · rfl
  · show l.val = 0 + l.val; omega

theorem scale_piece (o : ℕ) (k : Fin 6) (ho : o = 32 * k.val) (inb) (x : S1x128.Idx) (y : S6x128.Idx)
    (h0 : (y 0).val = k.val) (h1 : (y 1).val = (x 1).val) :
    k0_pay84 (arg3.view.readAt (Elt Ideal) (Rect.unit (s := S192x128) ![o, 0] S32x128.size inb).toLoadRect f3) x
      = scaleS (arg3.view.read (Elt Ideal) f3) y := by
  obtain ⟨z, l, rfl⟩ : ∃ (z : Fin 1) (l : Fin 128), x = ix2 z l := ⟨x 0, x 1, eq_ix2 x⟩
  obtain rfl : z = 0 := Subsingleton.elim _ _
  rw [scale_apply]
  have e0 : y 0 = k := Fin.ext h0
  have e1 : y 1 = l := Fin.ext h1
  unfold scaleS colMax
  rw [e0, e1]
  congr 1; congr 1; funext r
  exact load3 arg3 f3 o k ho inb r l

theorem code_piece (o : ℕ) (k : Fin 6) (ho : o = 32 * k.val) (inb) (x : S32x128.Idx) (y : S192x128.Idx)
    (h0 : (y 0).val = o + (x 0).val) (h1 : (y 1).val = (x 1).val) :
    k0_pay86 (k0_pay82 (arg3.view.readAt (Elt Ideal) (Rect.unit (s := S192x128) ![o, 0] S32x128.size inb).toLoadRect f3))
      (k0_pay85 (arg3.view.readAt (Elt Ideal) (Rect.unit (s := S192x128) ![o, 0] S32x128.size inb).toLoadRect f3)) x
      = codeS (arg3.view.read (Elt Ideal) f3) y := by
  obtain ⟨r, l, rfl⟩ : ∃ (r : Fin 32) (l : Fin 128), x = ix2 r l := ⟨x 0, x 1, eq_ix2 x⟩
  rw [code_apply]
  have h0' : (y 0).val = o + r.val := h0
  have e0 : (⟨(y 0).val / 32, by have : (y 0).val < 192 := (y 0).isLt; omega⟩ : Fin 6) = k := Fin.ext (by dsimp only; omega)
  have e1 : y 1 = l := Fin.ext h1
  have ey : y = ix2 (⟨32 * k.val + r.val, by omega⟩ : Fin 192) l := by
    funext a; fin_cases a
    · exact Fin.ext (by show (y 0).val = 32 * k.val + r.val; omega)
    · exact e1
  unfold codeS colMax
  rw [e0, e1]
  congr 1
  · congr 1; funext r
    exact load3 arg3 f3 o k ho inb r l
  · rw [load3 arg3 f3 o k ho inb, ← ey]

/-- What the kernel leaves in the scales. -/
theorem canon_scale (y : S6x128.Idx) :
    View.canon (runK.sl.H7_6 arg3 f3) y = scaleS (arg3.view.read (Elt Ideal) f3) y := by
  unfold runK.sl.H7_6 runK.sl.r_1 runK.sl.r_11 runK.sl.r_13 runK.sl.r_16 runK.sl.r_4 runK.sl.r_5 runK.sl.r_7 runK.sl.r_8 runK.sl.r_10
  rw [scale1, scale2, scale3, scale4, scale5]
  canon_tiles x h
  · exact scale_piece arg3 f3 160 5 rfl _ x y (by show _ = 5; omega) h1
  · exact scale_piece arg3 f3 128 4 rfl _ x y (by show _ = 4; omega) h1
  · exact scale_piece arg3 f3 96 3 rfl _ x y (by show _ = 3; omega) h1
  · exact scale_piece arg3 f3 64 2 rfl _ x y (by show _ = 2; omega) h1
  · exact scale_piece arg3 f3 32 1 rfl _ x y (by show _ = 1; omega) h1
  · exact scale_piece arg3 f3 0 0 rfl _ x y (by show _ = 0; omega) h1

/-- What the kernel leaves in the codes. -/
theorem canon_code (y : S192x128.Idx) :
    View.canon (runK.sl.H6_6 arg3 f3) y = codeS (arg3.view.read (Elt Ideal) f3) y := by
  unfold runK.sl.H6_6 runK.sl.r_15 runK.sl.r_16 runK.sl.r_12 runK.sl.r_14 runK.sl.r_9 runK.sl.r_10 runK.sl.r_6 runK.sl.r_7 runK.sl.r_8
    runK.sl.r_3 runK.sl.r_4 runK.sl.r_5 runK.sl.r runK.sl.r_2
  rw [code1, code2, code3, code4, code5]
  canon_tiles x h
  · exact code_piece arg3 f3 160 5 rfl _ x y h0 h1
  · exact code_piece arg3 f3 128 4 rfl _ x y h0 h1
  · exact code_piece arg3 f3 96 3 rfl _ x y h0 h1
  · exact code_piece arg3 f3 64 2 rfl _ x y h0 h1
  · exact code_piece arg3 f3 32 1 rfl _ x y h0 h1
  · exact code_piece arg3 f3 0 0 rfl _ x y (by omega) h1

/-- Every row of the scales is stored. -/
theorem cover_scale (y : S6x128.Idx) : ∃ p ∈ runK.sl.H7_6 arg3 f3, y ∈ p.1.set :=
  View.cover_of_tiled_head _ _ _ (by rfl) y

/-- Every row of the codes is stored. -/
theorem cover_code (y : S192x128.Idx) : ∃ p ∈ runK.sl.H6_6 arg3 f3, y ∈ p.1.set :=
  View.cover_of_tiled_head _ _ _ (by rfl) y

end Cert.KernelIdeal.Hand

end
-- ==== Proof.KernelIdeal.Scales.lean ====
/-
  The scales the kernel gathers: the query's scale and the 47 features' scales of every group (argument 8), and the
  same narrowed and paired by feature parity (argument 9).
-/
module

public import proofs.«01_k».proof.Proof.KernelIdeal.Quant
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The scale of feature `f` (feature 0 is the embeddings' own) in group `k`, column `l`. -/
def scl (X2 : Vec Ideal S6x47x128 .f32) (X3 : Vec Ideal S192x128 .bf16) (f : ℕ) (k : Fin 6) (l : Fin 128) : EReal :=
  if f = 0 then scaleK (colMax X3 k l) else if h : f - 1 < 47 then X2 (ix3 k (⟨f - 1, h⟩ : Fin 47) l) else 0

/-- All scales, 48 rows a group. -/
def S8 (X2 : Vec Ideal S6x47x128 .f32) (X3 : Vec Ideal S192x128 .bf16) : Vec Ideal S288x128 .f32 := fun y =>
  scl X2 X3 ((y 0).val % 48) ⟨(y 0).val / 48, by have : (y 0).val < 288 := (y 0).isLt; omega⟩ (y 1)

/-- All scales, paired by the parity of the feature. -/
def S9 (X2 : Vec Ideal S6x47x128 .f32) (X3 : Vec Ideal S192x128 .bf16) : Vec Ideal S144x2x128 .bf16 := fun y =>
  scl X2 X3 ((2 * (y 0).val + (y 1).val) % 48)
    ⟨(2 * (y 0).val + (y 1).val) / 48, by
      have h0 : (y 0).val < 144 := (y 0).isLt
      have h1 : (y 1).val < 2 := (y 1).isLt
      omega⟩ (y 2)

variable (arg2 : Memref sig .tc .vmem S6x47x128 .f32) (f2 : BufTy.Contents (Elt Ideal) arg2.view.ty)
  (arg3 : Memref sig .tc .vmem S192x128 .bf16) (f3 : BufTy.Contents (Elt Ideal) arg3.view.ty)
  (arg7 : Memref sig .tc .vmem S6x128 .f32) (arg8 : Memref sig .tc .vmem S288x128 .f32)

theorem emb_unit_val {s : Shape} (off size : Fin s.rank → ℕ) (inb) (x : (Rect.unit (s := s) off size inb).shape.Idx) (a : Fin s.rank) :
    (((Rect.unit (s := s) off size inb).emb x : s.Idx) a).val = off a + (x a).val := by
  rw [Rect.emb_apply]; show off a + 1 * (x a).val = _; omega

/-- The embeddings' scale of group `k`, as it lands in row `48k`. -/
theorem s8_head (k : Fin 6) (o : ℕ) (ho : o = k.val) (q : ℕ) (hq : q = 48 * k.val) (inb inb') (x : S1x128.Idx) :
    k0_pay116 (arg7.view.readCov (runK.sl.H7_6 arg3 f3) (Rect.unit (s := S6x128) ![o, 0] S1x128.size inb).toLoadRect) x
      = S8 (arg2.view.read (Elt Ideal) f2) (arg3.view.read (Elt Ideal) f3)
          ((Rect.unit (s := S288x128) ![q, 0] S1x128.size inb').emb x) := by
  subst ho hq
  obtain ⟨z, l, rfl⟩ : ∃ (z : Fin 1) (l : Fin 128), x = ix2 z l := ⟨x 0, x 1, eq_ix2 x⟩
  obtain rfl : z = 0 := Subsingleton.elim _ _
  rw [View.readCov_eq_canon']
  pointwise [k0_pay116]
  rw [canon_scale]
  unfold scaleS S8 scl
  have e0 : (((Rect.unit (s := S288x128) ![48 * k.val, 0] S1x128.size inb').emb (ix2 (0 : Fin 1) l) : S288x128.Idx) 0).val = 48 * k.val := by
    exact emb_unit_val _ _ _ _ _
  have e1 : ((Rect.unit (s := S288x128) ![48 * k.val, 0] S1x128.size inb').emb (ix2 (0 : Fin 1) l) : S288x128.Idx) 1 = l := by
    exact Fin.ext ((emb_unit_val _ _ _ _ _).trans (Nat.zero_add _))
  rw [if_pos (by rw [e0]; omega), e1]
  congr 2
  apply Fin.ext; show k.val = _ / 48; rw [e0]; omega

/-- The features' scales of group `k`, as they land in rows `48k+1 … 48k+47`. -/
theorem s8_tail (k : Fin 6) (o : ℕ) (ho : o = k.val) (q : ℕ) (hq : q = 48 * k.val + 1) (inb inb') (x : S47x128.Idx) :
    k0_pay117 (arg2.view.readAt (Elt Ideal) (Rect.unit (s := S6x47x128) ![o, 0, 0] S1x47x128.size inb).toLoadRect f2) x
      = S8 (arg2.view.read (Elt Ideal) f2) (arg3.view.read (Elt Ideal) f3)
          ((Rect.unit (s := S288x128) ![q, 0] S47x128.size inb').emb x) := by
  subst ho hq
  obtain ⟨r, l, rfl⟩ : ∃ (r : Fin 47) (l : Fin 128), x = ix2 r l := ⟨x 0, x 1, eq_ix2 x⟩
  have e0 : (((Rect.unit (s := S288x128) ![48 * k.val + 1, 0] S47x128.size inb').emb (ix2 r l) : S288x128.Idx) 0).val = 48 * k.val + 1 + r.val := by
    exact emb_unit_val _ _ _ _ _
  have e1 : ((Rect.unit (s := S288x128) ![48 * k.val + 1, 0] S47x128.size inb').emb (ix2 r l) : S288x128.Idx) 1 = l := by
    exact Fin.ext ((emb_unit_val _ _ _ _ _).trans (Nat.zero_add _))
  pointwise [k0_pay117]
  unfold S8 scl
  have hm : (48 * k.val + 1 + r.val) % 48 = r.val + 1 := by omega
  have hd : (48 * k.val + 1 + r.val) / 48 = k.val := by omega
  rw [if_neg (by rw [e0]; omega), dif_pos (by rw [e0]; omega), View.readAt_eq_ld]
  refine View.ld_unit_apply_of _ _ _ _ _ _ fun a => ?_
  fin_cases a
  · show _ / 48 = k.val + 0; rw [e0]; omega
  · show _ % 48 - 1 = 0 + r.val; rw [e0]; omega
  · show (((Rect.unit (s := S288x128) ![48 * k.val + 1, 0] S47x128.size inb').emb (ix2 r l) : S288x128.Idx) 1).val = 0 + l.val; rw [e1]; omega

/-- Rows `48k … 48k+47` are stored by the two pieces of group `k`. -/
theorem s8_cover (k : Fin 6) (o q : ℕ) (ho : o = 48 * k.val + 1) (hq : q = 48 * k.val) (inb inb') (w w') (L : List (View.Piece (Elt Ideal) S288x128 .f32))
    (y : S288x128.Idx) (h0 : 48 * k.val ≤ (y 0).val) (h1 : (y 0).val < 48 * k.val + 48) :
    ∃ p ∈ (⟨Rect.unit (s := S288x128) ![o, 0] S47x128.size inb, w⟩ :: ⟨Rect.unit (s := S288x128) ![q, 0] S1x128.size inb', w'⟩ :: L : List (View.Piece (Elt Ideal) S288x128 .f32)), y ∈ p.1.set := by
  have hl : (y 1).val < 128 := (y 1).isLt
  by_cases h : (y 0).val = 48 * k.val
  · refine ⟨_, List.mem_cons_of_mem _ List.mem_cons_self, (Rect.mem_set_unit (inb := inb')).mpr fun a => ?_⟩
    fin_cases a
    · show q ≤ (y 0).val ∧ (y 0).val < q + 1; omega
    · show 0 ≤ (y 1).val ∧ (y 1).val < 0 + 128; omega
  · refine ⟨_, List.mem_cons_self, (Rect.mem_set_unit (inb := inb)).mpr fun a => ?_⟩
    fin_cases a
    · show o ≤ (y 0).val ∧ (y 0).val < o + 47; omega
    · show 0 ≤ (y 1).val ∧ (y 1).val < 0 + 128; omega

/-- The list `L` holds all of group `k`, and nothing that differs from the scales. -/
def Holds8 (X2 : Vec Ideal S6x47x128 .f32) (X3 : Vec Ideal S192x128 .bf16) (k : Fin 6) (L : List (View.Piece (Elt Ideal) S288x128 .f32)) : Prop :=
  View.PiecesOf (S8 X2 X3) L ∧ ∀ y : S288x128.Idx, 48 * k.val ≤ (y 0).val → (y 0).val < 48 * k.val + 48 → ∃ p ∈ L, y ∈ p.1.set

theorem h8_2 : Holds8 (arg2.view.read (Elt Ideal) f2) (arg3.view.read (Elt Ideal) f3) 0 (runK.sl.H8_2 arg2 arg3 arg7 f2 f3) :=
  ⟨⟨s8_tail arg2 f2 arg3 f3 0 0 rfl 1 rfl _ inb_S288x128_S47x128_1_0, s8_head arg2 f2 arg3 f3 arg7 0 0 rfl 0 rfl _ inb_S288x128_S1x128_0_0, trivial⟩,
    fun y => s8_cover 0 1 0 rfl rfl _ _ _ _ _ y⟩

theorem h8_4 : Holds8 (arg2.view.read (Elt Ideal) f2) (arg3.view.read (Elt Ideal) f3) 1 (runK.sl.H8_4 arg2 arg3 arg7 f2 f3) :=
  ⟨⟨s8_tail arg2 f2 arg3 f3 1 1 rfl 49 rfl _ inb_S288x128_S47x128_49_0, s8_head arg2 f2 arg3 f3 arg7 1 1 rfl 48 rfl _ inb_S288x128_S1x128_48_0, (h8_2 arg2 f2 arg3 f3 arg7).1⟩,
    fun y => s8_cover 1 49 48 rfl rfl _ _ _ _ _ y⟩

theorem h8_6 : Holds8 (arg2.view.read (Elt Ideal) f2) (arg3.view.read (Elt Ideal) f3) 2 (runK.sl.H8_6 arg2 arg3 arg7 f2 f3) :=
  ⟨⟨s8_tail arg2 f2 arg3 f3 2 2 rfl 97 rfl _ inb_S288x128_S47x128_97_0, s8_head arg2 f2 arg3 f3 arg7 2 2 rfl 96 rfl _ inb_S288x128_S1x128_96_0, (h8_4 arg2 f2 arg3 f3 arg7).1⟩,
    fun y => s8_cover 2 97 96 rfl rfl _ _ _ _ _ y⟩

theorem h8_8 : Holds8 (arg2.view.read (Elt Ideal) f2) (arg3.view.read (Elt Ideal) f3) 3 (runK.sl.H8_8 arg2 arg3 arg7 f2 f3) :=
  ⟨⟨s8_tail arg2 f2 arg3 f3 3 3 rfl 145 rfl _ inb_S288x128_S47x128_145_0, s8_head arg2 f2 arg3 f3 arg7 3 3 rfl 144 rfl _ inb_S288x128_S1x128_144_0, (h8_6 arg2 f2 arg3 f3 arg7).1⟩,
    fun y => s8_cover 3 145 144 rfl rfl _ _ _ _ _ y⟩

theorem h8_10 : Holds8 (arg2.view.read (Elt Ideal) f2) (arg3.view.read (Elt Ideal) f3) 4 (runK.sl.H8_10 arg2 arg3 arg7 f2 f3) :=
  ⟨⟨s8_tail arg2 f2 arg3 f3 4 4 rfl 193 rfl _ inb_S288x128_S47x128_193_0, s8_head arg2 f2 arg3 f3 arg7 4 4 rfl 192 rfl _ inb_S288x128_S1x128_192_0, (h8_8 arg2 f2 arg3 f3 arg7).1⟩,
    fun y => s8_cover 4 193 192 rfl rfl _ _ _ _ _ y⟩

theorem h8_12 : Holds8 (arg2.view.read (Elt Ideal) f2) (arg3.view.read (Elt Ideal) f3) 5 (runK.sl.H8_12 arg2 arg3 arg7 f2 f3) :=
  ⟨⟨s8_tail arg2 f2 arg3 f3 5 5 rfl 241 rfl _ inb_S288x128_S47x128_241_0, s8_head arg2 f2 arg3 f3 arg7 5 5 rfl 240 rfl _ inb_S288x128_S1x128_240_0, (h8_10 arg2 f2 arg3 f3 arg7).1⟩,
    fun y => s8_cover 5 241 240 rfl rfl _ _ _ _ _ y⟩

/-- Eight rows of one parity of a group, as the kernel loads them. -/
theorem s8_load {X2 : Vec Ideal S6x47x128 .f32} {X3 : Vec Ideal S192x128 .bf16} {k : Fin 6} {L : List (View.Piece (Elt Ideal) S288x128 .f32)}
    (h : Holds8 X2 X3 k L) (o : ℕ) (h0 : 48 * k.val ≤ o) (h1 : o + 14 < 48 * k.val + 48) (inb) (r : Fin 8) (l : Fin 128) :
    arg8.view.readCov L (⟨![o, 0], S8x128.size, ![2, 1], inb⟩ : LoadRect S288x128) (ix2 r l) = S8 X2 X3 (ix2 (⟨o + 2 * r.val, by omega⟩ : Fin 288) l) := by
  rw [View.readCov_eq_canon']
  have e : (⟨![o, 0], S8x128.size, ![2, 1], inb⟩ : LoadRect S288x128).idx (ix2 r l) = ix2 (⟨o + 2 * r.val, by omega⟩ : Fin 288) l := by
    funext a; fin_cases a
    · apply Fin.ext; rw [LoadRect.idx_apply]; rfl
    · apply Fin.ext; rw [LoadRect.idx_apply]; show 0 + 1 * l.val = l.val; omega
  show View.canon L _ = _
  rw [e]
  exact View.canon_apply_of_pieces _ L h.1.mem _ (h.2 _ (by show _ ≤ o + 2 * r.val; omega) (by show o + 2 * r.val < _; omega))

/-- The pair of loads as it is stored in the paired scales. -/
theorem s9_piece {X2 : Vec Ideal S6x47x128 .f32} {X3 : Vec Ideal S192x128 .bf16} {k : Fin 6} {L : List (View.Piece (Elt Ideal) S288x128 .f32)}
    (h : Holds8 X2 X3 k L) (o o' q : ℕ) (ho' : o' = o + 1) (hq : o = 2 * q) (h0 : 48 * k.val ≤ o) (h1 : o + 15 < 48 * k.val + 48) (inb inb')
    (x : S8x2x128.Idx) (y : S144x2x128.Idx) (hy0 : (y 0).val = q + (x 0).val) (hy1 : (y 1).val = (x 1).val) (hy2 : (y 2).val = (x 2).val) :
    k0_pay121 (arg8.view.readCov L (⟨![o, 0], S8x128.size, ![2, 1], inb⟩ : LoadRect S288x128))
      (arg8.view.readCov L (⟨![o', 0], S8x128.size, ![2, 1], inb'⟩ : LoadRect S288x128)) x = S9 X2 X3 y := by
  obtain ⟨r, p, l, rfl⟩ : ∃ (r : Fin 8) (p : Fin 2) (l : Fin 128), x = ix3 r p l := ⟨x 0, x 1, x 2, eq_ix3 x⟩
  subst ho' hq
  have hy0' : (y 0).val = q + r.val := hy0
  have hy1' : (y 1).val = p.val := hy1
  have e2 : y 2 = l := Fin.ext hy2
  unfold S9
  rw [e2]
  pointwise [k0_pay121]
  fin_cases p
  · have hy1'' : (y 1).val = 0 := hy1'
    simp
    rw [s8_load arg8 h _ (by omega) (by omega)]
    unfold S8
    congr 1
    · show (2 * q + 2 * r.val) % 48 = _; rw [hy0', hy1'']; congr 1; omega
    · apply Fin.ext; show (2 * q + 2 * r.val) / 48 = _; dsimp only; rw [hy0', hy1'']; congr 1; omega
  · have hy1'' : (y 1).val = 1 := hy1'
    simp
    rw [s8_load arg8 h _ (by omega) (by omega)]
    unfold S8
    congr 1
    · show (2 * q + 1 + 2 * r.val) % 48 = _; rw [hy0', hy1'']; congr 1; omega
    · apply Fin.ext; show (2 * q + 1 + 2 * r.val) / 48 = _; dsimp only; rw [hy0', hy1'']; congr 1; omega

/-- What the kernel leaves in the paired scales. -/
theorem canon_pairs (y : S144x2x128.Idx) :
    View.canon (runK.sl.H9_18 arg2 arg3 arg7 arg8 f2 f3) y = S9 (arg2.view.read (Elt Ideal) f2) (arg3.view.read (Elt Ideal) f3) y := by
  unfold runK.sl.H9_18
  canon_tiles x h
  · exact s9_piece arg8 (h8_12 arg2 f2 arg3 f3 arg7) 272 273 136 rfl rfl (by decide) (by decide) _ _ x y h0 h1 h2
  · exact s9_piece arg8 (h8_12 arg2 f2 arg3 f3 arg7) 256 257 128 rfl rfl (by decide) (by decide) _ _ x y h0 h1 h2
  · exact s9_piece arg8 (h8_12 arg2 f2 arg3 f3 arg7) 240 241 120 rfl rfl (by decide) (by decide) _ _ x y h0 h1 h2
  · exact s9_piece arg8 (h8_10 arg2 f2 arg3 f3 arg7) 224 225 112 rfl rfl (by decide) (by decide) _ _ x y h0 h1 h2
  · exact s9_piece arg8 (h8_10 arg2 f2 arg3 f3 arg7) 208 209 104 rfl rfl (by decide) (by decide) _ _ x y h0 h1 h2
  · exact s9_piece arg8 (h8_10 arg2 f2 arg3 f3 arg7) 192 193 96 rfl rfl (by decide) (by decide) _ _ x y h0 h1 h2
  · exact s9_piece arg8 (h8_8 arg2 f2 arg3 f3 arg7) 176 177 88 rfl rfl (by decide) (by decide) _ _ x y h0 h1 h2
  · exact s9_piece arg8 (h8_8 arg2 f2 arg3 f3 arg7) 160 161 80 rfl rfl (by decide) (by decide) _ _ x y h0 h1 h2
  · exact s9_piece arg8 (h8_8 arg2 f2 arg3 f3 arg7) 144 145 72 rfl rfl (by decide) (by decide) _ _ x y h0 h1 h2
  · exact s9_piece arg8 (h8_6 arg2 f2 arg3 f3 arg7) 128 129 64 rfl rfl (by decide) (by decide) _ _ x y h0 h1 h2
  · exact s9_piece arg8 (h8_6 arg2 f2 arg3 f3 arg7) 112 113 56 rfl rfl (by decide) (by decide) _ _ x y h0 h1 h2
  · exact s9_piece arg8 (h8_6 arg2 f2 arg3 f3 arg7) 96 97 48 rfl rfl (by decide) (by decide) _ _ x y h0 h1 h2
  · exact s9_piece arg8 (h8_4 arg2 f2 arg3 f3 arg7) 80 81 40 rfl rfl (by decide) (by decide) _ _ x y h0 h1 h2
  · exact s9_piece arg8 (h8_4 arg2 f2 arg3 f3 arg7) 64 65 32 rfl rfl (by decide) (by decide) _ _ x y h0 h1 h2
  · exact s9_piece arg8 (h8_4 arg2 f2 arg3 f3 arg7) 48 49 24 rfl rfl (by decide) (by decide) _ _ x y h0 h1 h2
  · exact s9_piece arg8 (h8_2 arg2 f2 arg3 f3 arg7) 32 33 16 rfl rfl (by decide) (by decide) _ _ x y h0 h1 h2
  · exact s9_piece arg8 (h8_2 arg2 f2 arg3 f3 arg7) 16 17 8 rfl rfl (by decide) (by decide) _ _ x y h0 h1 h2
  · exact s9_piece arg8 (h8_2 arg2 f2 arg3 f3 arg7) 0 1 0 rfl rfl (by decide) (by decide) _ _ x y (by omega) h1 h2

end Cert.KernelIdeal.Hand

end
-- ==== Proof.KernelIdeal.Rows.lean ====
/-
  The dequantised operand of the Gram products (argument 10): every feature's codes times its scales, paired by the
  parity of the feature, a word per pair, transposed to have the batch outermost.
-/
module

public import proofs.«01_k».proof.Proof.KernelIdeal.Scales

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The code of feature `f` (feature 0 is the embeddings' own) at depth `d`, column `l`. -/
def cod (X1 : Vec Ideal S47x192x128 .fp8e4m3) (X3 : Vec Ideal S192x128 .bf16) (f : ℕ) (d : Fin 192) (l : Fin 128) : EReal :=
  if f = 0 then codeS X3 (ix2 d l) else if h : f - 1 < 47 then X1 (ix3 (⟨f - 1, h⟩ : Fin 47) d l) else 0

/-- The dequantised value of feature `f` at depth `d`, column `l`. -/
def opd (X1 : Vec Ideal S47x192x128 .fp8e4m3) (X2 : Vec Ideal S6x47x128 .f32) (X3 : Vec Ideal S192x128 .bf16) (f : ℕ) (d : Fin 192) (l : Fin 128) : EReal :=
  cod X1 X3 f d l * scl X2 X3 f ⟨d.val / 32, by omega⟩ l

/-- The operand as it lies in argument 10 (words 24 … 27 of a column are not used). -/
def S10 (X1 : Vec Ideal S47x192x128 .fp8e4m3) (X2 : Vec Ideal S6x47x128 .f32) (X3 : Vec Ideal S192x128 .bf16) : Vec Ideal S2x3584x2x128 .bf16 := fun y =>
  if h : 8 * (y 0).val + (y 3).val / 16 < 12 then
    opd X1 X2 X3 (2 * ((y 1).val % 28) + (y 2).val)
      ⟨32 * ((8 * (y 0).val + (y 3).val / 16) / 2) + 2 * ((y 3).val % 16) + (8 * (y 0).val + (y 3).val / 16) % 2, by omega⟩
      ⟨(y 1).val / 28, by have : (y 1).val < 3584 := (y 1).isLt; omega⟩
  else 0

/-- Even depths of a group: the even rows of the one feature beside the even rows of the other, scaled. -/
def prodA (a b : FVec Ideal S32x128 .f32) (s : Vec Ideal S1x2x128 .bf16) : FVec Ideal S32x128 .bf16 :=
  k0_pay165 (k0_pay162 s) (select k0_pay159 a (dynamicRotate 0 1#32 none b rotates_S32x128_d0))

/-- Odd depths of a group. -/
def prodB (a b : FVec Ideal S32x128 .f32) (s : Vec Ideal S1x2x128 .bf16) : FVec Ideal S32x128 .bf16 :=
  k0_pay165 (k0_pay162 s) (select k0_pay159 (dynamicRotate 0 31#32 none a rotates_S32x128_d0) b)

theorem even_row (r : Fin 32) (l : Fin 128) : k0_pay159 (ix2 r l) = BitVec.ofBool (decide (r.val % 2 = 0)) := by
  pointwise [k0_pay159]
  revert r; decide

theorem select_even {α : Type} (n : ℕ) (a b : α) : Scalar.select (BitVec.ofBool (decide (n % 2 = 0))) a b = if n % 2 = 0 then a else b := by
  by_cases h : n % 2 = 0 <;> simp [h, Scalar.select]

theorem pair_scale (s : Vec Ideal S1x2x128 .bf16) (r : Fin 32) (l : Fin 128) :
    k0_pay162 s (ix2 r l) = s (ix3 (0 : Fin 1) (⟨r.val % 2, by omega⟩ : Fin 2) l) := by
  pointwise [k0_pay162]
  rw [even_row, select_even]
  split_ifs with h
  · congr 2; apply Fin.ext; exact h.symm
  · congr 2; apply Fin.ext; show 1 = r.val % 2; omega

theorem rowA (p : Fin 2) (a b : FVec Ideal S32x128 .f32) (s : Vec Ideal S1x2x128 .bf16) (r : Fin 16) (l : Fin 128) :
    rowsOfParity p S16x128 (prodA a b s) bitcasts_S32x128_w16_S16x128_w32 (ix2 r l)
      = (if p = 0 then a (ix2 (⟨2 * r.val, by omega⟩ : Fin 32) l) else b (ix2 (⟨2 * r.val, by omega⟩ : Fin 32) l)) * s (ix3 (0 : Fin 1) p l) := by
  pointwise [prodA, k0_pay165]
  rw [pair_scale, even_row, select_even]
  congr 1
  · fin_cases p
    · exact if_pos (by show (2 * r.val + 0) % 2 = 0; omega)
    · refine (if_neg (by show ¬ (2 * r.val + 1) % 2 = 0; omega)).trans ?_
      congr 2; apply Fin.ext; show (2 * r.val + 1 + 32 - 1) % 32 = 2 * r.val; omega
  · congr 2; apply Fin.ext; show (2 * r.val + p.val) % 2 = p.val; omega

theorem rowB (p : Fin 2) (a b : FVec Ideal S32x128 .f32) (s : Vec Ideal S1x2x128 .bf16) (r : Fin 16) (l : Fin 128) :
    rowsOfParity p S16x128 (prodB a b s) bitcasts_S32x128_w16_S16x128_w32 (ix2 r l)
      = (if p = 0 then a (ix2 (⟨2 * r.val + 1, by omega⟩ : Fin 32) l) else b (ix2 (⟨2 * r.val + 1, by omega⟩ : Fin 32) l)) * s (ix3 (0 : Fin 1) p l) := by
  pointwise [prodB, k0_pay165]
  rw [pair_scale, even_row, select_even]
  congr 1
  · fin_cases p
    · refine (if_pos (by show (2 * r.val + 0) % 2 = 0; omega)).trans ?_
      congr 2; apply Fin.ext; show (2 * r.val + 0 + 32 - 31) % 32 = 2 * r.val + 1; omega
    · exact if_neg (by show ¬ (2 * r.val + 1) % 2 = 0; omega)
  · congr 2; apply Fin.ext; show (2 * r.val + p.val) % 2 = p.val; omega

/-- The parity-`p` plane of the even depths of group `k`. -/
def planeA (A B : Fin 6 → FVec Ideal S32x128 .f32) (S : Fin 6 → Vec Ideal S1x2x128 .bf16) (p : Fin 2) (k : Fin 6) : FVec Ideal S16x128 .bf16 :=
  rowsOfParity p S16x128 (prodA (A k) (B k) (S k)) bitcasts_S32x128_w16_S16x128_w32

/-- The parity-`p` plane of the odd depths of group `k`. -/
def planeB (A B : Fin 6 → FVec Ideal S32x128 .f32) (S : Fin 6 → Vec Ideal S1x2x128 .bf16) (p : Fin 2) (k : Fin 6) : FVec Ideal S16x128 .bf16 :=
  rowsOfParity p S16x128 (prodB (A k) (B k) (S k)) bitcasts_S32x128_w16_S16x128_w32

/-- The planes of the first four groups, transposed. -/
def lowWord (A B : Fin 6 → FVec Ideal S32x128 .f32) (S : Fin 6 → Vec Ideal S1x2x128 .bf16) : Vec Ideal S1x128x2x128 .bf16 :=
  k0_pay219
    (k0_pay215 (planeA A B S 0 0) (planeB A B S 0 0) (planeA A B S 0 1) (planeB A B S 0 1) (planeA A B S 0 2) (planeB A B S 0 2) (planeA A B S 0 3) (planeB A B S 0 3))
    (k0_pay216 (planeA A B S 1 0) (planeB A B S 1 0) (planeA A B S 1 1) (planeB A B S 1 1) (planeA A B S 1 2) (planeB A B S 1 2) (planeA A B S 1 3) (planeB A B S 1 3))

def zeroPlane (p : Fin 2) : FVec Ideal S16x128 .bf16 :=
  rowsOfParity p S16x128 (k0_pay214 (F := Ideal)) bitcasts_S32x128_w16_S16x128_w32

theorem zeroPlane_val (p : Fin 2) (r : Fin 16) (b : Fin 128) : zeroPlane p (ix2 r b) = 0 := by
  pointwise [zeroPlane, k0_pay214]

/-- The planes of the last two groups and zeros, side by side. -/
def tailPlanes (A B : Fin 6 → FVec Ideal S32x128 .f32) (S : Fin 6 → Vec Ideal S1x2x128 .bf16) (p : Fin 2) : FVec Ideal S128x128 .bf16 :=
  concatenate S128x128 0 [⟨S16x128, planeA A B S p 4⟩, ⟨S16x128, planeB A B S p 4⟩, ⟨S16x128, planeA A B S p 5⟩, ⟨S16x128, planeB A B S p 5⟩,
    ⟨S16x128, zeroPlane p⟩, ⟨S16x128, zeroPlane p⟩,
    ⟨S16x128, zeroPlane p⟩, ⟨S16x128, zeroPlane p⟩]
    concatenates_S16x128_S16x128_S16x128_S16x128_S16x128_S16x128_S16x128_S16x128_S128x128_d0

def highWord (A B : Fin 6 → FVec Ideal S32x128 .f32) (S : Fin 6 → Vec Ideal S1x2x128 .bf16) : Vec Ideal S1x128x2x128 .bf16 :=
  k0_pay220 (tailPlanes A B S 0) (tailPlanes A B S 1)

section
variable (A B : Fin 6 → FVec Ideal S32x128 .f32) (S : Fin 6 → Vec Ideal S1x2x128 .bf16)

/-- What plane `n` of word's parity `p` holds at row `r`. -/
def planeVal (p : Fin 2) (n : ℕ) (h : n < 12) (r : Fin 16) (b : Fin 128) : EReal :=
  (if p = 0 then A ⟨n / 2, by omega⟩ (ix2 (⟨2 * r.val + n % 2, by omega⟩ : Fin 32) b) else B ⟨n / 2, by omega⟩ (ix2 (⟨2 * r.val + n % 2, by omega⟩ : Fin 32) b))
    * S ⟨n / 2, by omega⟩ (ix3 (0 : Fin 1) p b)

theorem planeA_val (p : Fin 2) (k : Fin 6) (r : Fin 16) (b : Fin 128) (n : ℕ) (h : n < 12) (hn : n = 2 * k.val) (r' : Fin 16) (hr : r.val = r'.val) :
    planeA A B S p k (ix2 r b) = planeVal A B S p n h r' b := by
  obtain rfl : r = r' := Fin.ext hr
  subst hn
  have e1 : (⟨2 * k.val / 2, by omega⟩ : Fin 6) = k := Fin.ext (by show 2 * k.val / 2 = k.val; omega)
  have e2 : (⟨2 * r.val + 2 * k.val % 2, by omega⟩ : Fin 32) = ⟨2 * r.val, by omega⟩ := Fin.ext (by show 2 * r.val + 2 * k.val % 2 = 2 * r.val; omega)
  rw [planeA, rowA, planeVal, e1, e2]

theorem planeB_val (p : Fin 2) (k : Fin 6) (r : Fin 16) (b : Fin 128) (n : ℕ) (h : n < 12) (hn : n = 2 * k.val + 1) (r' : Fin 16) (hr : r.val = r'.val) :
    planeB A B S p k (ix2 r b) = planeVal A B S p n h r' b := by
  obtain rfl : r = r' := Fin.ext hr
  subst hn
  have e1 : (⟨(2 * k.val + 1) / 2, by omega⟩ : Fin 6) = k := Fin.ext (by show (2 * k.val + 1) / 2 = k.val; omega)
  have e2 : (⟨2 * r.val + (2 * k.val + 1) % 2, by omega⟩ : Fin 32) = ⟨2 * r.val + 1, by omega⟩ := Fin.ext (by show 2 * r.val + (2 * k.val + 1) % 2 = 2 * r.val + 1; omega)
  rw [planeB, rowB, planeVal, e1, e2]

theorem val6 : ((0 : Fin 6) : ℕ) = 0 ∧ ((1 : Fin 6) : ℕ) = 1 ∧ ((2 : Fin 6) : ℕ) = 2 ∧ ((3 : Fin 6) : ℕ) = 3 ∧ ((4 : Fin 6) : ℕ) = 4 ∧ ((5 : Fin 6) : ℕ) = 5 := ⟨rfl, rfl, rfl, rfl, rfl, rfl⟩

attribute [local irreducible] planeA planeB planeVal zeroPlane

theorem lowWord_val (p : Fin 2) (b q : Fin 128) :
    lowWord A B S (ix4 (0 : Fin 1) b p q) = planeVal A B S p (q.val / 16) (by omega) ⟨q.val % 16, by omega⟩ b := by
  pointwise [lowWord, k0_pay215, k0_pay216, k0_pay219]
  have v6 := val6
  rcases (show p = 0 ∨ p = 1 by omega) with rfl | rfl
  · refine (if_pos rfl).trans ?_
    split_ifs
    all_goals first
      | (refine planeA_val A B S _ _ _ _ _ _ ?_ _ ?_ <;> (try dsimp only) <;> omega)
      | (refine planeB_val A B S _ _ _ _ _ _ ?_ _ ?_ <;> (try dsimp only) <;> omega)
  · refine (if_neg (by decide)).trans ?_
    split_ifs
    all_goals first
      | (refine planeA_val A B S _ _ _ _ _ _ ?_ _ ?_ <;> (try dsimp only) <;> omega)
      | (refine planeB_val A B S _ _ _ _ _ _ ?_ _ ?_ <;> (try dsimp only) <;> omega)

theorem highWord_val (p : Fin 2) (b q : Fin 128) :
    highWord A B S (ix4 (0 : Fin 1) b p q) = if h : 8 + q.val / 16 < 12 then planeVal A B S p (8 + q.val / 16) h ⟨q.val % 16, by omega⟩ b else 0 := by
  have v6 := val6
  pointwise [highWord, tailPlanes, k0_pay220]
  by_cases hq : 8 + q.val / 16 < 12
  · refine Eq.trans ?_ (dif_pos hq).symm
    rcases (show p = 0 ∨ p = 1 by omega) with rfl | rfl
    · refine (if_pos rfl).trans ?_
      split_ifs
      all_goals first
        | (exfalso; omega)
        | (refine planeA_val A B S _ _ _ _ _ _ ?_ _ ?_ <;> (try dsimp only) <;> omega)
        | (refine planeB_val A B S _ _ _ _ _ _ ?_ _ ?_ <;> (try dsimp only) <;> omega)
    · refine (if_neg (by decide)).trans ?_
      split_ifs
      all_goals first
        | (exfalso; omega)
        | (refine planeA_val A B S _ _ _ _ _ _ ?_ _ ?_ <;> (try dsimp only) <;> omega)
        | (refine planeB_val A B S _ _ _ _ _ _ ?_ _ ?_ <;> (try dsimp only) <;> omega)
  · refine Eq.trans ?_ (dif_neg hq).symm
    rcases (show p = 0 ∨ p = 1 by omega) with rfl | rfl
    · refine (if_pos rfl).trans ?_
      split_ifs
      all_goals first
        | (exfalso; omega)
        | exact zeroPlane_val _ _ _
    · refine (if_neg (by decide)).trans ?_
      split_ifs
      all_goals first
        | (exfalso; omega)
        | exact zeroPlane_val _ _ _
end

/-- Argument 9 is wholly written. -/
theorem cover_pairs (arg2 arg3 arg7 arg8 f2 f3) (y : S144x2x128.Idx) : ∃ p ∈ runK.sl.H9_18 (F := Ideal) arg2 arg3 arg7 arg8 f2 f3, y ∈ p.1.set :=
  View.cover_of_tiled_head _ _ _ (by rfl) y

section
variable (arg1 : Memref sig Kind.tc Space.vmem S47x192x128 EltTy.fp8e4m3) (arg2 : Memref sig Kind.tc Space.vmem S6x47x128 EltTy.f32)
  (arg3 : Memref sig Kind.tc Space.vmem S192x128 EltTy.bf16) (arg6 : Memref sig Kind.tc Space.vmem S192x128 EltTy.fp8e4m3)
  (arg7 : Memref sig Kind.tc Space.vmem S6x128 EltTy.f32) (arg8 : Memref sig Kind.tc Space.vmem S288x128 EltTy.f32) (arg9 : Memref sig Kind.tc Space.vmem S144x2x128 EltTy.bf16)
  (f1 : BufTy.Contents (Elt Ideal) arg1.view.ty) (f2 : BufTy.Contents (Elt Ideal) arg2.view.ty) (f3 : BufTy.Contents (Elt Ideal) arg3.view.ty)

/-- Group `k` of the embeddings' codes, as word 0 reads it. -/
def A0 : Fin 6 → FVec Ideal S32x128 .f32 :=
  ![k0_pay160 (runK.sl.v470 arg3 arg6 f3), k0_pay160 (runK.sl.v499 arg3 arg6 f3), k0_pay160 (runK.sl.v528 arg3 arg6 f3),
    k0_pay160 (runK.sl.v557 arg3 arg6 f3), k0_pay160 (runK.sl.v586 arg3 arg6 f3), k0_pay160 (runK.sl.v615 arg3 arg6 f3)]

def B0 : Fin 6 → FVec Ideal S32x128 .f32 :=
  ![k0_pay161 (arg1.view.readAt (Elt Ideal) (Rect.unit (s := S47x192x128) ![0, 0, 0] S1x32x128.size inb_S47x192x128_S1x32x128_0_0_0).toLoadRect f1),
    k0_pay161 (arg1.view.readAt (Elt Ideal) (Rect.unit (s := S47x192x128) ![0, 32, 0] S1x32x128.size inb_S47x192x128_S1x32x128_0_32_0).toLoadRect f1),
    k0_pay161 (arg1.view.readAt (Elt Ideal) (Rect.unit (s := S47x192x128) ![0, 64, 0] S1x32x128.size inb_S47x192x128_S1x32x128_0_64_0).toLoadRect f1),
    k0_pay161 (arg1.view.readAt (Elt Ideal) (Rect.unit (s := S47x192x128) ![0, 96, 0] S1x32x128.size inb_S47x192x128_S1x32x128_0_96_0).toLoadRect f1),
    k0_pay161 (arg1.view.readAt (Elt Ideal) (Rect.unit (s := S47x192x128) ![0, 128, 0] S1x32x128.size inb_S47x192x128_S1x32x128_0_128_0).toLoadRect f1),
    k0_pay161 (arg1.view.readAt (Elt Ideal) (Rect.unit (s := S47x192x128) ![0, 160, 0] S1x32x128.size inb_S47x192x128_S1x32x128_0_160_0).toLoadRect f1)]

def C0 : Fin 6 → Vec Ideal S1x2x128 .bf16 :=
  ![runK.sl.v476_raw arg2 arg3 arg7 arg8 arg9 f2 f3, runK.sl.v505_raw arg2 arg3 arg7 arg8 arg9 f2 f3, runK.sl.v534_raw arg2 arg3 arg7 arg8 arg9 f2 f3,
    runK.sl.v563_raw arg2 arg3 arg7 arg8 arg9 f2 f3, runK.sl.v592_raw arg2 arg3 arg7 arg8 arg9 f2 f3, runK.sl.v621_raw arg2 arg3 arg7 arg8 arg9 f2 f3]

theorem low0_eq : k0_pay219 (runK.sl.r_60 arg1 arg2 arg3 arg6 arg7 arg8 arg9 f1 f2 f3) (runK.sl.r_61 arg1 arg2 arg3 arg6 arg7 arg8 arg9 f1 f2 f3)
    = lowWord (A0 arg3 arg6 f3) (B0 arg1 f1) (C0 arg2 arg3 arg7 arg8 arg9 f2 f3) := rfl

theorem high0_eq : k0_pay220 (runK.sl.r_62 arg1 arg2 arg3 arg6 arg7 arg8 arg9 f1 f2 f3) (runK.sl.r_63 arg1 arg2 arg3 arg6 arg7 arg8 arg9 f1 f2 f3)
    = highWord (A0 arg3 arg6 f3) (B0 arg1 f1) (C0 arg2 arg3 arg7 arg8 arg9 f2 f3) := rfl

variable (X1 : BufTy.Contents (Elt Ideal) arg1.view.ty) (X9 : BufTy.Contents (Elt Ideal) arg9.view.ty) (k : Fin k0_t1_loop.trips)

def A1 : Fin 6 → FVec Ideal S32x128 .f32 :=
  ![k0_pay161 (arg1.view.readAt (Elt Ideal) (Rect.unit (s := S47x192x128) (k0_off1 k) S1x32x128.size (k0_off1_inb k)).toLoadRect X1),
    k0_pay161 (arg1.view.readAt (Elt Ideal) (Rect.unit (s := S47x192x128) (k0_off4 k) S1x32x128.size (k0_off4_inb k)).toLoadRect X1),
    k0_pay161 (arg1.view.readAt (Elt Ideal) (Rect.unit (s := S47x192x128) (k0_off6 k) S1x32x128.size (k0_off6_inb k)).toLoadRect X1),
    k0_pay161 (arg1.view.readAt (Elt Ideal) (Rect.unit (s := S47x192x128) (k0_off8 k) S1x32x128.size (k0_off8_inb k)).toLoadRect X1),
    k0_pay161 (arg1.view.readAt (Elt Ideal) (Rect.unit (s := S47x192x128) (k0_off10 k) S1x32x128.size (k0_off10_inb k)).toLoadRect X1),
    k0_pay161 (arg1.view.readAt (Elt Ideal) (Rect.unit (s := S47x192x128) (k0_off12 k) S1x32x128.size (k0_off12_inb k)).toLoadRect X1)]

def B1 : Fin 6 → FVec Ideal S32x128 .f32 :=
  ![k0_pay161 (arg1.view.readAt (Elt Ideal) (Rect.unit (s := S47x192x128) (k0_off2 k) S1x32x128.size (k0_off2_inb k)).toLoadRect X1),
    k0_pay161 (arg1.view.readAt (Elt Ideal) (Rect.unit (s := S47x192x128) (k0_off5 k) S1x32x128.size (k0_off5_inb k)).toLoadRect X1),
    k0_pay161 (arg1.view.readAt (Elt Ideal) (Rect.unit (s := S47x192x128) (k0_off7 k) S1x32x128.size (k0_off7_inb k)).toLoadRect X1),
    k0_pay161 (arg1.view.readAt (Elt Ideal) (Rect.unit (s := S47x192x128) (k0_off9 k) S1x32x128.size (k0_off9_inb k)).toLoadRect X1),
    k0_pay161 (arg1.view.readAt (Elt Ideal) (Rect.unit (s := S47x192x128) (k0_off11 k) S1x32x128.size (k0_off11_inb k)).toLoadRect X1),
    k0_pay161 (arg1.view.readAt (Elt Ideal) (Rect.unit (s := S47x192x128) (k0_off13 k) S1x32x128.size (k0_off13_inb k)).toLoadRect X1)]

def C1 : Fin 6 → Vec Ideal S1x2x128 .bf16 :=
  ![arg9.view.readAt (Elt Ideal) (Rect.unit (s := S144x2x128) (k0_off3 k 0#32) S1x2x128.size (k0_off3_inb k 0)).toLoadRect X9,
    arg9.view.readAt (Elt Ideal) (Rect.unit (s := S144x2x128) (k0_off3 k 24#32) S1x2x128.size (k0_off3_inb k 1)).toLoadRect X9,
    arg9.view.readAt (Elt Ideal) (Rect.unit (s := S144x2x128) (k0_off3 k 48#32) S1x2x128.size (k0_off3_inb k 2)).toLoadRect X9,
    arg9.view.readAt (Elt Ideal) (Rect.unit (s := S144x2x128) (k0_off3 k 72#32) S1x2x128.size (k0_off3_inb k 3)).toLoadRect X9,
    arg9.view.readAt (Elt Ideal) (Rect.unit (s := S144x2x128) (k0_off3 k 96#32) S1x2x128.size (k0_off3_inb k 4)).toLoadRect X9,
    arg9.view.readAt (Elt Ideal) (Rect.unit (s := S144x2x128) (k0_off3 k 120#32) S1x2x128.size (k0_off3_inb k 5)).toLoadRect X9]

theorem low1_eq : k0_pay221 (tripW.sl.r_26 arg1 arg9 X1 X9 k) (tripW.sl.r_27 arg1 arg9 X1 X9 k)
    = lowWord (A1 arg1 X1 k) (B1 arg1 X1 k) (C1 arg9 X9 k) := rfl

theorem high1_eq : k0_pay222 (tripW.sl.r_28 arg1 arg9 X1 X9 k) (tripW.sl.r_29 arg1 arg9 X1 X9 k)
    = highWord (A1 arg1 X1 k) (B1 arg1 X1 k) (C1 arg9 X9 k) := rfl
end

end Cert.KernelIdeal.Hand

end
-- ==== Proof.KernelIdeal.Words.lean ====
/-
  The words of argument 10: word 0 pairs the embeddings' codes with feature 0 of the table, word `k + 1` pairs features `2k + 1` and `2k + 2`.
-/
module

public import proofs.«01_k».proof.Proof.KernelIdeal.Rows
public import proofs.«01_k».proof.Proof.KernelIdeal.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section
variable {X1 : Vec Ideal S47x192x128 .fp8e4m3} {X2 : Vec Ideal S6x47x128 .f32} {X3 : Vec Ideal S192x128 .bf16}
  {A B : Fin 6 → FVec Ideal S32x128 .f32} {S : Fin 6 → Vec Ideal S1x2x128 .bf16}

/-- What a word's operands must read for the word to hold features `2w` and `2w + 1`. -/
structure Reads (X1 : Vec Ideal S47x192x128 .fp8e4m3) (X2 : Vec Ideal S6x47x128 .f32) (X3 : Vec Ideal S192x128 .bf16)
    (A B : Fin 6 → FVec Ideal S32x128 .f32) (S : Fin 6 → Vec Ideal S1x2x128 .bf16) (w : ℕ) : Prop where
  a : ∀ (k : Fin 6) (r : Fin 32) (l : Fin 128), A k (ix2 r l) = cod X1 X3 (2 * w) ⟨32 * k.val + r.val, by omega⟩ l
  b : ∀ (k : Fin 6) (r : Fin 32) (l : Fin 128), B k (ix2 r l) = cod X1 X3 (2 * w + 1) ⟨32 * k.val + r.val, by omega⟩ l
  s : ∀ (k : Fin 6) (p : Fin 2) (l : Fin 128), S k (ix3 (0 : Fin 1) p l) = scl X2 X3 (2 * w + p.val) k l

theorem Reads.plane {w : ℕ} (h : Reads X1 X2 X3 A B S w) (p : Fin 2) (n : ℕ) (hn : n < 12) (r : Fin 16) (b : Fin 128) :
    planeVal A B S p n hn r b = opd X1 X2 X3 (2 * w + p.val) ⟨32 * (n / 2) + 2 * r.val + n % 2, by omega⟩ b := by
  unfold planeVal opd
  rw [h.s]
  have e1 : (⟨(32 * (n / 2) + 2 * r.val + n % 2) / 32, by omega⟩ : Fin 6) = ⟨n / 2, by omega⟩ := Fin.ext (by dsimp only; omega)
  have e2 : ∀ (d : ℕ) (hd : d < 192), d = 32 * (n / 2) + 2 * r.val + n % 2 → (⟨d, hd⟩ : Fin 192) = ⟨32 * (n / 2) + 2 * r.val + n % 2, by omega⟩ := fun d hd e => Fin.ext e
  rw [e1]
  congr 1
  rcases (show p = 0 ∨ p = 1 by omega) with rfl | rfl
  · rw [if_pos rfl, h.a, e2 _ _ (by dsimp only; omega)]; rfl
  · rw [if_neg (by decide), h.b, e2 _ _ (by dsimp only; omega)]; rfl

theorem Reads.low {w : ℕ} (h : Reads X1 X2 X3 A B S w) (hw : w < 28) (x : S1x128x2x128.Idx) (y : S2x3584x2x128.Idx)
    (h0 : (y 0).val = 0) (h1 : (y 1).val = w + 28 * (x 1).val) (h2 : (y 2).val = (x 2).val) (h3 : (y 3).val = (x 3).val) :
    lowWord A B S x = S10 X1 X2 X3 y := by
  obtain ⟨b, p, q, rfl⟩ : ∃ (b : Fin 128) (p : Fin 2) (q : Fin 128), x = ix4 (0 : Fin 1) b p q :=
    ⟨x 1, x 2, x 3, by conv => lhs; rw [eq_ix4 x]
                       congr 1; exact Subsingleton.elim _ _⟩
  have h1' : (y 1).val = w + 28 * b.val := h1
  have h2' : (y 2).val = p.val := h2
  have h3' : (y 3).val = q.val := h3
  rw [lowWord_val, h.plane]
  unfold S10
  rw [dif_pos (by omega)]
  congr 1
  · omega
  · apply Fin.ext; dsimp only; rw [h0, h3']; omega
  · apply Fin.ext; dsimp only; omega

theorem Reads.high {w : ℕ} (h : Reads X1 X2 X3 A B S w) (hw : w < 28) (x : S1x128x2x128.Idx) (y : S2x3584x2x128.Idx)
    (h0 : (y 0).val = 1) (h1 : (y 1).val = w + 28 * (x 1).val) (h2 : (y 2).val = (x 2).val) (h3 : (y 3).val = (x 3).val) :
    highWord A B S x = S10 X1 X2 X3 y := by
  obtain ⟨b, p, q, rfl⟩ : ∃ (b : Fin 128) (p : Fin 2) (q : Fin 128), x = ix4 (0 : Fin 1) b p q :=
    ⟨x 1, x 2, x 3, by conv => lhs; rw [eq_ix4 x]
                       congr 1; exact Subsingleton.elim _ _⟩
  have h1' : (y 1).val = w + 28 * b.val := h1
  have h2' : (y 2).val = p.val := h2
  have h3' : (y 3).val = q.val := h3
  rw [highWord_val]
  unfold S10
  by_cases hq : 8 + q.val / 16 < 12
  · rw [dif_pos hq, dif_pos (by omega), h.plane]
    congr 1
    · omega
    · apply Fin.ext; dsimp only; rw [h0, h3]; rfl
    · apply Fin.ext; dsimp only; omega
  · rw [dif_neg hq, dif_neg (by omega)]
end

section
variable (arg1 : Memref sig Kind.tc Space.vmem S47x192x128 EltTy.fp8e4m3) (arg2 : Memref sig Kind.tc Space.vmem S6x47x128 EltTy.f32)
  (arg3 : Memref sig Kind.tc Space.vmem S192x128 EltTy.bf16) (arg6 : Memref sig Kind.tc Space.vmem S192x128 EltTy.fp8e4m3)
  (arg7 : Memref sig Kind.tc Space.vmem S6x128 EltTy.f32) (arg8 : Memref sig Kind.tc Space.vmem S288x128 EltTy.f32) (arg9 : Memref sig Kind.tc Space.vmem S144x2x128 EltTy.bf16)
  (f1 : BufTy.Contents (Elt Ideal) arg1.view.ty) (f2 : BufTy.Contents (Elt Ideal) arg2.view.ty) (f3 : BufTy.Contents (Elt Ideal) arg3.view.ty)

/-- A block of the features' codes is what `cod` says. -/
theorem code_load (f : ℕ) (hf : f < 47) (k : Fin 6) (off : Fin 3 → ℕ) (ho : off = ![f, 32 * k.val, 0]) (inb) (r : Fin 32) (l : Fin 128) :
    k0_pay161 (arg1.view.readAt (Elt Ideal) (Rect.unit (s := S47x192x128) off S1x32x128.size inb).toLoadRect f1) (ix2 r l)
      = cod (arg1.view.read (Elt Ideal) f1) (arg3.view.read (Elt Ideal) f3) (f + 1) ⟨32 * k.val + r.val, by omega⟩ l := by
  subst ho
  pointwise [k0_pay161]
  unfold cod
  rw [if_neg (by omega), dif_pos (by omega), View.readAt_eq_ld]
  refine View.ld_unit_apply_of _ _ _ _ _ _ fun a => ?_
  fin_cases a
  · show f + 1 - 1 = f + 0; omega
  · rfl
  · show l.val = 0 + l.val; omega

/-- A block of the embeddings' own codes. -/
theorem own_load (k : Fin 6) (o : ℕ) (ho : o = 32 * k.val) (inb) (r : Fin 32) (l : Fin 128) :
    k0_pay160 (arg6.view.readCov (runK.sl.H6_6 arg3 f3) (Rect.unit (s := S192x128) ![o, 0] S32x128.size inb).toLoadRect) (ix2 r l)
      = cod (arg1.view.read (Elt Ideal) f1) (arg3.view.read (Elt Ideal) f3) 0 ⟨32 * k.val + r.val, by omega⟩ l := by
  subst ho
  pointwise [k0_pay160]
  unfold cod
  rw [if_pos rfl, View.readCov_eq_canon']
  show View.canon _ _ = _
  rw [canon_code]
  congr 1
  funext a; fin_cases a
  · apply Fin.ext; rw [LoadRect.idx_apply]; show 32 * k.val + 1 * r.val = 32 * k.val + r.val; omega
  · apply Fin.ext; rw [LoadRect.idx_apply]; show 0 + 1 * l.val = l.val; omega

/-- A pair of scales as word 0 reads them. -/
theorem pair_load0 (k : Fin 6) (o : ℕ) (ho : o = 24 * k.val) (inb) (p : Fin 2) (l : Fin 128) :
    arg9.view.readCov (runK.sl.H9_18 arg2 arg3 arg7 arg8 f2 f3) (Rect.unit (s := S144x2x128) ![o, 0, 0] S1x2x128.size inb).toLoadRect (ix3 (0 : Fin 1) p l)
      = scl (arg2.view.read (Elt Ideal) f2) (arg3.view.read (Elt Ideal) f3) (2 * 0 + p.val) k l := by
  subst ho
  rw [View.readCov_eq_canon']
  show View.canon _ _ = _
  rw [canon_pairs]
  have e : (Rect.unit (s := S144x2x128) ![24 * k.val, 0, 0] S1x2x128.size inb).toLoadRect.idx (ix3 (0 : Fin 1) p l) = ix3 (⟨24 * k.val, by omega⟩ : Fin 144) p l := by
    funext a; fin_cases a
    · apply Fin.ext; rw [LoadRect.idx_apply]; show 24 * k.val + 1 * 0 = 24 * k.val; omega
    · apply Fin.ext; rw [LoadRect.idx_apply]; show 0 + 1 * p.val = p.val; omega
    · apply Fin.ext; rw [LoadRect.idx_apply]; show 0 + 1 * l.val = l.val; omega
  show S9 _ _ _ = _
  rw [e]
  unfold S9
  congr 1
  · show (2 * (24 * k.val) + p.val) % 48 = _; omega
  · apply Fin.ext; show (2 * (24 * k.val) + p.val) / 48 = _; omega

theorem reads0 : Reads (arg1.view.read (Elt Ideal) f1) (arg2.view.read (Elt Ideal) f2) (arg3.view.read (Elt Ideal) f3)
    (A0 arg3 arg6 f3) (B0 arg1 f1) (C0 arg2 arg3 arg7 arg8 arg9 f2 f3) 0 where
  a k r l := by
    fin_cases k
    · exact own_load arg1 arg3 arg6 f1 f3 0 0 rfl _ r l
    · exact own_load arg1 arg3 arg6 f1 f3 1 32 rfl _ r l
    · exact own_load arg1 arg3 arg6 f1 f3 2 64 rfl _ r l
    · exact own_load arg1 arg3 arg6 f1 f3 3 96 rfl _ r l
    · exact own_load arg1 arg3 arg6 f1 f3 4 128 rfl _ r l
    · exact own_load arg1 arg3 arg6 f1 f3 5 160 rfl _ r l
  b k r l := by
    fin_cases k
    · exact code_load arg1 arg3 f1 f3 0 (by omega) 0 _ rfl _ r l
    · exact code_load arg1 arg3 f1 f3 0 (by omega) 1 _ rfl _ r l
    · exact code_load arg1 arg3 f1 f3 0 (by omega) 2 _ rfl _ r l
    · exact code_load arg1 arg3 f1 f3 0 (by omega) 3 _ rfl _ r l
    · exact code_load arg1 arg3 f1 f3 0 (by omega) 4 _ rfl _ r l
    · exact code_load arg1 arg3 f1 f3 0 (by omega) 5 _ rfl _ r l
  s k p l := by
    fin_cases k
    · exact pair_load0 arg2 arg3 arg7 arg8 arg9 f2 f3 0 0 rfl _ p l
    · exact pair_load0 arg2 arg3 arg7 arg8 arg9 f2 f3 1 24 rfl _ p l
    · exact pair_load0 arg2 arg3 arg7 arg8 arg9 f2 f3 2 48 rfl _ p l
    · exact pair_load0 arg2 arg3 arg7 arg8 arg9 f2 f3 3 72 rfl _ p l
    · exact pair_load0 arg2 arg3 arg7 arg8 arg9 f2 f3 4 96 rfl _ p l
    · exact pair_load0 arg2 arg3 arg7 arg8 arg9 f2 f3 5 120 rfl _ p l

variable {arg9} {X2 : Vec Ideal S6x47x128 .f32} {X3 : Vec Ideal S192x128 .bf16} {X9 : BufTy.Contents (Elt Ideal) arg9.view.ty}

/-- A pair of scales as the later words read them. -/
theorem pair_load1 (h9 : ∀ y, arg9.view.read (Elt Ideal) X9 y = S9 X2 X3 y) (w : ℕ) (hw : w < 24) (k : Fin 6) (off : Fin 3 → ℕ) (ho : off = ![24 * k.val + w, 0, 0]) (inb)
    (p : Fin 2) (l : Fin 128) :
    arg9.view.readAt (Elt Ideal) (Rect.unit (s := S144x2x128) off S1x2x128.size inb).toLoadRect X9 (ix3 (0 : Fin 1) p l) = scl X2 X3 (2 * w + p.val) k l := by
  subst ho
  rw [View.readAt_eq_ld]
  refine (View.ld_unit_apply_of _ _ _ _ _ (ix3 (⟨24 * k.val + w, by omega⟩ : Fin 144) p l) fun a => ?_).trans ?_
  · fin_cases a
    · rfl
    · show p.val = 0 + p.val; omega
    · show l.val = 0 + l.val; omega
  · rw [h9]
    unfold S9
    congr 1
    · show (2 * (24 * k.val + w) + p.val) % 48 = _; omega
    · apply Fin.ext; show (2 * (24 * k.val + w) + p.val) / 48 = _; omega

theorem reads1 (h9 : ∀ y, arg9.view.read (Elt Ideal) X9 y = S9 X2 (arg3.view.read (Elt Ideal) f3) y) (k : Fin k0_t1_loop.trips) (hk : k.val < 23) :
    Reads (arg1.view.read (Elt Ideal) f1) X2 (arg3.view.read (Elt Ideal) f3) (A1 arg1 f1 k) (B1 arg1 f1 k) (C1 arg9 X9 k) (k.val + 1) where
  a j r l := by
    have e : 2 * (k.val + 1) = 2 * k.val + 1 + 1 := by omega
    rw [e]
    fin_cases j
    · exact code_load arg1 arg3 f1 f3 _ (by omega) 0 _ (k0_off1_eq k) _ r l
    · exact code_load arg1 arg3 f1 f3 _ (by omega) 1 _ (k0_off4_eq k) _ r l
    · exact code_load arg1 arg3 f1 f3 _ (by omega) 2 _ (k0_off6_eq k) _ r l
    · exact code_load arg1 arg3 f1 f3 _ (by omega) 3 _ (k0_off8_eq k) _ r l
    · exact code_load arg1 arg3 f1 f3 _ (by omega) 4 _ (k0_off10_eq k) _ r l
    · exact code_load arg1 arg3 f1 f3 _ (by omega) 5 _ (k0_off12_eq k) _ r l
  b j r l := by
    have e : 2 * (k.val + 1) + 1 = 2 * k.val + 2 + 1 := by omega
    rw [e]
    fin_cases j
    · exact code_load arg1 arg3 f1 f3 _ (by omega) 0 _ (k0_off2_eq k) _ r l
    · exact code_load arg1 arg3 f1 f3 _ (by omega) 1 _ (k0_off5_eq k) _ r l
    · exact code_load arg1 arg3 f1 f3 _ (by omega) 2 _ (k0_off7_eq k) _ r l
    · exact code_load arg1 arg3 f1 f3 _ (by omega) 3 _ (k0_off9_eq k) _ r l
    · exact code_load arg1 arg3 f1 f3 _ (by omega) 4 _ (k0_off11_eq k) _ r l
    · exact code_load arg1 arg3 f1 f3 _ (by omega) 5 _ (k0_off13_eq k) _ r l
  s j p l := by
    fin_cases j
    · exact pair_load1 h9 _ (by omega) 0 _ (k0_off3_eq k 0) _ p l
    · exact pair_load1 h9 _ (by omega) 1 _ (k0_off3_eq k 1) _ p l
    · exact pair_load1 h9 _ (by omega) 2 _ (k0_off3_eq k 2) _ p l
    · exact pair_load1 h9 _ (by omega) 3 _ (k0_off3_eq k 3) _ p l
    · exact pair_load1 h9 _ (by omega) 4 _ (k0_off3_eq k 4) _ p l
    · exact pair_load1 h9 _ (by omega) 5 _ (k0_off3_eq k 5) _ p l
end

end Cert.KernelIdeal.Hand

end
-- ==== Proof.KernelIdeal.Table.lean ====
/-
  Argument 10 after the dequantise loop: every word of every column, as a table of the features' dequantised values.
-/
module

public import proofs.«01_k».proof.Proof.KernelIdeal.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem trips1 : k0_t1_loop.trips = 23 := by decide +kernel

/-- Column `b` of a strided store of words lands at `28 b` past its offset. -/
theorem strided_val (off : Fin 4 → ℕ) (inb) (sp) (x : S1x128x2x128.Idx) (a : Fin 4) :
    ((⟨⟨off, S1x128x2x128.size, ![1, 28, 1, 1], inb⟩, sp⟩ : Rect S2x3584x2x128).emb x a).val = off a + (![1, 28, 1, 1] : Fin 4 → ℕ) a * (x a).val :=
  Rect.emb_apply _ _ _

theorem strided_mem (t w : ℕ) (off : Fin 4 → ℕ) (ho : off = ![t, w, 0, 0]) (inb) (sp) (y : S2x3584x2x128.Idx) (hw : w < 28) (h0 : (y 0).val = t) (h1 : (y 1).val % 28 = w) :
    y ∈ (⟨⟨off, S1x128x2x128.size, ![1, 28, 1, 1], inb⟩, sp⟩ : Rect S2x3584x2x128).set := by
  subst ho
  have e1 : (y 1).val < 3584 := (y 1).isLt
  have e2 : (y 2).val < 2 := (y 2).isLt
  have e3 : (y 3).val < 128 := (y 3).isLt
  refine (LoadRect.mem_set _).mpr fun a => ?_
  fin_cases a
  · exact ⟨0, Nat.one_pos, by show (y 0).val = t + 1 * 0; omega⟩
  · exact ⟨(y 1).val / 28, by show _ < 128; omega, by show (y 1).val = w + 28 * ((y 1).val / 28); omega⟩
  · exact ⟨(y 2).val, e2, by show (y 2).val = 0 + 1 * (y 2).val; omega⟩
  · exact ⟨(y 3).val, e3, by show (y 3).val = 0 + 1 * (y 3).val; omega⟩

section
variable {X1 : Vec Ideal S47x192x128 .fp8e4m3} {X2 : Vec Ideal S6x47x128 .f32} {X3 : Vec Ideal S192x128 .bf16}
  {A B : Fin 6 → FVec Ideal S32x128 .f32} {S : Fin 6 → Vec Ideal S1x2x128 .bf16}

theorem Reads.low_piece {w : ℕ} (h : Reads X1 X2 X3 A B S w) (hw : w < 28) (off : Fin 4 → ℕ) (ho : off = ![0, w, 0, 0]) (inb) (sp) (x : S1x128x2x128.Idx) :
    lowWord A B S x = S10 X1 X2 X3 ((⟨⟨off, S1x128x2x128.size, ![1, 28, 1, 1], inb⟩, sp⟩ : Rect S2x3584x2x128).emb x) := by
  subst ho
  have x0 : (x 0).val < 1 := (x 0).isLt
  refine h.low hw x _ ((strided_val _ _ _ _ _).trans ?_) ((strided_val _ _ _ _ _).trans ?_) ((strided_val _ _ _ _ _).trans ?_) ((strided_val _ _ _ _ _).trans ?_)
  · show 0 + 1 * (x 0).val = 0; omega
  · rfl
  · show 0 + 1 * (x 2).val = _; omega
  · show 0 + 1 * (x 3).val = _; omega

theorem Reads.high_piece {w : ℕ} (h : Reads X1 X2 X3 A B S w) (hw : w < 28) (off : Fin 4 → ℕ) (ho : off = ![1, w, 0, 0]) (inb) (sp) (x : S1x128x2x128.Idx) :
    highWord A B S x = S10 X1 X2 X3 ((⟨⟨off, S1x128x2x128.size, ![1, 28, 1, 1], inb⟩, sp⟩ : Rect S2x3584x2x128).emb x) := by
  subst ho
  have x0 : (x 0).val < 1 := (x 0).isLt
  refine h.high hw x _ ((strided_val _ _ _ _ _).trans ?_) ((strided_val _ _ _ _ _).trans ?_) ((strided_val _ _ _ _ _).trans ?_) ((strided_val _ _ _ _ _).trans ?_)
  · show 1 + 1 * (x 0).val = 1; omega
  · rfl
  · show 0 + 1 * (x 2).val = _; omega
  · show 0 + 1 * (x 3).val = _; omega
end

section
variable (c : Dev nD) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole)
  (u v w x : FVec Ideal S128x128 .bf16) (f1 : BufTy.Contents (Elt Ideal) arg1.view.ty) (f2 : BufTy.Contents (Elt Ideal) arg2.view.ty) (f3 : BufTy.Contents (Elt Ideal) arg3.view.ty)

theorem trip_list (X9 : BufTy.Contents (Elt Ideal) arg9.view.ty) (k : Fin k0_t1_loop.trips) :
    (tripW (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x f1 X9 k).1
      = [⟨⟨⟨k0_off15 k, S1x128x2x128.size, ![1, 28, 1, 1], k0_off15_inb k⟩, spos_1_28_1_1⟩, highWord (A1 arg1 f1 k) (B1 arg1 f1 k) (C1 arg9 X9 k)⟩,
         ⟨⟨⟨k0_off14 k, S1x128x2x128.size, ![1, 28, 1, 1], k0_off14_inb k⟩, spos_1_28_1_1⟩, lowWord (A1 arg1 f1 k) (B1 arg1 f1 k) (C1 arg9 X9 k)⟩] := by
  rw [← low1_eq, ← high1_eq]
  unfold tripW
  rfl

/-- Every piece of the dequantise loop holds its words. -/
theorem words_pieces {X9 : BufTy.Contents (Elt Ideal) arg9.view.ty} {X2 : Vec Ideal S6x47x128 .f32}
    (h9 : ∀ y, arg9.view.read (Elt Ideal) X9 y = S9 X2 (arg3.view.read (Elt Ideal) f3) y) :
    ∀ n, n ≤ k0_t1_loop.trips → View.PiecesOf (S10 (arg1.view.read (Elt Ideal) f1) X2 (arg3.view.read (Elt Ideal) f3))
      (piecesW (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x f1 X9 n)
  | 0, _ => by rw [piecesW.eq_1]; trivial
  | n + 1, hn => by
    have ht := trips1
    have hr := reads1 arg1 arg3 f1 f3 h9 ⟨n, hn⟩ (by show n < 23; omega)
    refine (piecesW_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x f1 X9 ⟨n, hn⟩).symm ▸ ?_
    rw [trip_list]
    exact ⟨hr.high_piece (by show n + 1 < 28; omega) _ (k0_off15_eq ⟨n, hn⟩) _ _, hr.low_piece (by show n + 1 < 28; omega) _ (k0_off14_eq ⟨n, hn⟩) _ _,
      words_pieces h9 n (Nat.le_of_succ_le hn)⟩

/-- The loop stores every word of every column but the first. -/
theorem words_cover (X9 : BufTy.Contents (Elt Ideal) arg9.view.ty) (y : S2x3584x2x128.Idx) (hy : 0 < (y 1).val % 28) :
    ∀ n, n ≤ k0_t1_loop.trips → (y 1).val % 28 ≤ n → ∃ p ∈ piecesW (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x f1 X9 n, y ∈ p.1.set
  | 0, _, h => absurd h (by omega)
  | n + 1, hn, h => by
    have ht := trips1
    have y0 : (y 0).val < 2 := (y 0).isLt
    refine (piecesW_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x f1 X9 ⟨n, hn⟩).symm ▸ ?_
    by_cases e : (y 1).val % 28 = n + 1
    · rw [trip_list]
      by_cases e0 : (y 0).val = 0
      · exact ⟨_, List.mem_append_left _ (List.mem_cons_of_mem _ List.mem_cons_self), strided_mem 0 (n + 1) _ (k0_off14_eq ⟨n, hn⟩) _ _ y (by omega) e0 e⟩
      · exact ⟨_, List.mem_append_left _ List.mem_cons_self, strided_mem 1 (n + 1) _ (k0_off15_eq ⟨n, hn⟩) _ _ y (by omega) (by omega) e⟩
    · obtain ⟨p, hp, hm⟩ := words_cover X9 y hy n (Nat.le_of_succ_le hn) (by omega)
      exact ⟨p, List.mem_append_right _ hp, hm⟩

/-- What the Gram loop finds in argument 10. -/
def X10 (f10 : BufTy.Contents (Elt Ideal) arg10.view.ty) : BufTy.Contents (Elt Ideal) arg10.view.ty :=
  arg10.view.writes (Elt Ideal) f10
    (piecesW (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (runK.sl.r_60 arg1 arg2 arg3 arg6 arg7 arg8 arg9 f1 f2 f3) (runK.sl.r_61 arg1 arg2 arg3 arg6 arg7 arg8 arg9 f1 f2 f3)
        (runK.sl.r_62 arg1 arg2 arg3 arg6 arg7 arg8 arg9 f1 f2 f3) (runK.sl.r_63 arg1 arg2 arg3 arg6 arg7 arg8 arg9 f1 f2 f3) f1
        (arg9.view.writes (Elt Ideal) arg9.view.junk (runK.sl.H9_18 arg2 arg3 arg7 arg8 f2 f3)) (Scf.trips k0_t1_loop.lb k0_t1_loop.ub k0_t1_loop.st)
      ++ [⟨⟨⟨![1, 0, 0, 0], S1x128x2x128.size, ![1, 28, 1, 1], inb_S2x3584x2x128_S1x128x2x128_1_0_0_0_s_1_28_1_1⟩, spos_1_28_1_1⟩,
            k0_pay220 (runK.sl.r_62 arg1 arg2 arg3 arg6 arg7 arg8 arg9 f1 f2 f3) (runK.sl.r_63 arg1 arg2 arg3 arg6 arg7 arg8 arg9 f1 f2 f3)⟩,
          ⟨⟨⟨![0, 0, 0, 0], S1x128x2x128.size, ![1, 28, 1, 1], inb_S2x3584x2x128_S1x128x2x128_0_0_0_0_s_1_28_1_1⟩, spos_1_28_1_1⟩,
            k0_pay219 (runK.sl.r_60 arg1 arg2 arg3 arg6 arg7 arg8 arg9 f1 f2 f3) (runK.sl.r_61 arg1 arg2 arg3 arg6 arg7 arg8 arg9 f1 f2 f3)⟩])

theorem X10_read (f10 : BufTy.Contents (Elt Ideal) arg10.view.ty) (y : S2x3584x2x128.Idx) (hy : (y 1).val % 28 < 24) :
    arg10.view.read (Elt Ideal) (X10 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10) y
      = S10 (arg1.view.read (Elt Ideal) f1) (arg2.view.read (Elt Ideal) f2) (arg3.view.read (Elt Ideal) f3) y := by
  have ht := trips1
  have y0 : (y 0).val < 2 := (y 0).isLt
  have h9 : ∀ z, arg9.view.read (Elt Ideal) (arg9.view.writes (Elt Ideal) arg9.view.junk (runK.sl.H9_18 arg2 arg3 arg7 arg8 f2 f3)) z
      = S9 (arg2.view.read (Elt Ideal) f2) (arg3.view.read (Elt Ideal) f3) z := fun z =>
    (View.read_writes_apply_eq_canon _ _ _ _ (cover_pairs arg2 arg3 arg7 arg8 f2 f3 z)).trans (canon_pairs arg2 f2 arg3 f3 arg7 arg8 z)
  have hr := reads0 arg1 arg2 arg3 arg6 arg7 arg8 arg9 f1 f2 f3
  unfold X10
  rw [low0_eq, high0_eq]
  refine View.read_writes_apply_of_pieces _ _ _ _ (fun p hp => ?_) _ ?_
  · rcases List.mem_append.mp hp with hp | hp
    · exact (words_pieces c i arg1 harg1 arg2 harg2 arg3 harg3 arg4 harg4 arg5 harg5 arg6 harg6 arg7 harg7 arg8 harg8 arg9 harg9 arg10 harg10 arg11 harg11 arg12 harg12 arg13 harg13 arg14 harg14 _ _ _ _ f1 f3 h9 _ le_rfl).mem p hp
    · refine View.PiecesOf.mem (L := [_, _]) ⟨hr.high_piece (by omega) _ rfl _ _, hr.low_piece (by omega) _ rfl _ _, trivial⟩ p hp
  · by_cases e : (y 1).val % 28 = 0
    · by_cases e0 : (y 0).val = 0
      · exact ⟨_, List.mem_append_right _ (List.mem_cons_of_mem _ List.mem_cons_self), strided_mem 0 0 _ rfl _ _ y (by omega) e0 e⟩
      · exact ⟨_, List.mem_append_right _ List.mem_cons_self, strided_mem 1 0 _ rfl _ _ y (by omega) (by omega) e⟩
    · obtain ⟨p, hp, hm⟩ := words_cover c i arg1 harg1 arg2 harg2 arg3 harg3 arg4 harg4 arg5 harg5 arg6 harg6 arg7 harg7 arg8 harg8 arg9 harg9 arg10 harg10 arg11 harg11 arg12 harg12 arg13 harg13 arg14 harg14 (runK.sl.r_60 arg1 arg2 arg3 arg6 arg7 arg8 arg9 f1 f2 f3) (runK.sl.r_61 arg1 arg2 arg3 arg6 arg7 arg8 arg9 f1 f2 f3)
        (runK.sl.r_62 arg1 arg2 arg3 arg6 arg7 arg8 arg9 f1 f2 f3) (runK.sl.r_63 arg1 arg2 arg3 arg6 arg7 arg8 arg9 f1 f2 f3) f1
        (arg9.view.writes (Elt Ideal) arg9.view.junk (runK.sl.H9_18 arg2 arg3 arg7 arg8 f2 f3)) y (by omega) k0_t1_loop.trips le_rfl (by omega)
      exact ⟨p, List.mem_append_left _ hp, hm⟩
end

end Cert.KernelIdeal.Hand

end
-- ==== Proof.KernelIdeal.Gram.lean ====
/-
  The Gram products: trip `k` multiplies the dequantised features of columns `k` and `k + 64`.
-/
module

public import proofs.«01_k».proof.Proof.KernelIdeal.Table

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The column a row of a Gram product belongs to: rows 0 … 47 are column `k`, rows 48 … 95 column `k + 64`. -/
def gcol (k a : ℕ) : Fin 128 := ⟨(k + 64 * (a / 48)) % 128, Nat.mod_lt _ (by omega)⟩

/-- Entry (a, b) of the Gram product of columns `k` and `k + 64`. -/
def gramS (X1 : Vec Ideal S47x192x128 .fp8e4m3) (X2 : Vec Ideal S6x47x128 .f32) (X3 : Vec Ideal S192x128 .bf16) (k a b : ℕ) : EReal :=
  ∑ d : Fin 192, opd X1 X2 X3 (a % 48) d (gcol k a) * opd X1 X2 X3 (b % 48) d (gcol k b)

/-- The dot product of the dequantised features `f` and `g` of column `l`. -/
def dotv (X1 : Vec Ideal S47x192x128 .fp8e4m3) (X2 : Vec Ideal S6x47x128 .f32) (X3 : Vec Ideal S192x128 .bf16) (f g : ℕ) (l : Fin 128) : EReal :=
  ∑ d : Fin 192, opd X1 X2 X3 f d l * opd X1 X2 X3 g d l

/-- The order of the 192 depths in the operand's lanes. -/
def depthOrder : Fin 192 ≃ Fin 192 where
  toFun c := ⟨32 * ((c.val / 16) / 2) + 2 * (c.val % 16) + (c.val / 16) % 2, by omega⟩
  invFun d := ⟨16 * (2 * (d.val / 32) + d.val % 2) + (d.val % 32) / 2, by omega⟩
  left_inv c := by revert c; decide +kernel
  right_inv d := by revert d; decide +kernel

/-- A sum over 256 lanes of which the last 64 are zero, as a sum over the 192 depths. -/
theorem sum_lanes (G : Fin 192 → EReal) (F : Fin 256 → EReal)
    (h : ∀ c : Fin 192, F ⟨c.val, by omega⟩ = G (depthOrder c)) (h0 : ∀ c : Fin 64, F ⟨192 + c.val, by omega⟩ = 0) :
    ∑ c : Fin 256, F c = ∑ d : Fin 192, G d := by
  rw [← Equiv.sum_comp depthOrder G]
  refine (Fin.sum_univ_add (a := 192) (b := 64) F).trans ?_
  rw [Finset.sum_eq_zero (s := Finset.univ) (f := fun i : Fin 64 => F (Fin.natAdd 192 i)) (fun i _ => h0 i), add_zero]
  exact Finset.sum_congr rfl fun c _ => h c

/-- Sixteen rows of the operand: the two halves of the lanes of eight words. -/
theorem tile_val (a b : Vec Ideal S1x8x2x128 .bf16) (r : Fin 16) (c : Fin 256) :
    k0_pay60 a b (ix2 r c) = if h : c.val < 128 then a (ix4 (0 : Fin 1) (⟨r.val / 2, by omega⟩ : Fin 8) (⟨r.val % 2, by omega⟩ : Fin 2) ⟨c.val, h⟩)
      else b (ix4 (0 : Fin 1) (⟨r.val / 2, by omega⟩ : Fin 8) (⟨r.val % 2, by omega⟩ : Fin 2) (⟨c.val - 128, by omega⟩ : Fin 128)) := by
  pointwise [k0_pay60]
  have key : ∀ (v : Vec Ideal S1x8x2x128 .bf16) (q : Fin 128), (if r.val % 2 = 0 then v (ix4 (0 : Fin 1) (⟨r.val / 2, by omega⟩ : Fin 8) (0 : Fin 2) q)
      else v (ix4 (0 : Fin 1) (⟨r.val / 2, by omega⟩ : Fin 8) (1 : Fin 2) q)) = v (ix4 (0 : Fin 1) (⟨r.val / 2, by omega⟩ : Fin 8) (⟨r.val % 2, by omega⟩ : Fin 2) q) := by
    intro v q
    split
    · exact congrArg (fun p : Fin 2 => v (ix4 (0 : Fin 1) (⟨r.val / 2, by omega⟩ : Fin 8) p q)) (Fin.ext (by show 0 = r.val % 2; omega))
    · exact congrArg (fun p : Fin 2 => v (ix4 (0 : Fin 1) (⟨r.val / 2, by omega⟩ : Fin 8) p q)) (Fin.ext (by show 1 = r.val % 2; omega))
  exact dite_congr rfl (fun h => key a _) (fun h => key b _)

/-- The 96 rows of one trip's product. -/
def gramRows (A B : Fin 6 → Vec Ideal S1x8x2x128 .bf16) : FVec Ideal S96x256 .bf16 :=
  concatenate S96x256 0 (List.ofFn fun n : Fin 6 => (⟨S16x256, k0_pay60 (A n) (B n)⟩ : (s : Shape) × (s.Idx → Ideal .bf16))) concatenates_S16x256_S16x256_S16x256_S16x256_S16x256_S16x256_S96x256_d0

/-- One trip's product. -/
def gram (A B : Fin 6 → Vec Ideal S1x8x2x128 .bf16) : FVec Ideal S96x96 .f32 :=
  matmul dot_S96x256_S96x256_S96x96_1_1_0_0_n_n none (gramRows A B) (gramRows A B) (constant S96x96 .f32 0x00000000#32)

theorem gramRows_val (A B : Fin 6 → Vec Ideal S1x8x2x128 .bf16) (a : Fin 96) (c : Fin 256) :
    gramRows A B (ix2 a c) = k0_pay60 (A ⟨a.val / 16, by omega⟩) (B ⟨a.val / 16, by omega⟩) (ix2 (⟨a.val % 16, by omega⟩ : Fin 16) c) := by
  refine concatenate_ofFn_apply (0 : Fin S96x256.rank) (fun n : Fin 6 => k0_pay60 (A n) (B n)) _ rfl 16 rfl _ ⟨a.val / 16, by omega⟩ rfl _ rfl ?_
  intro b hb
  match b, hb with
  | 0, hb => exact absurd rfl hb
  | 1, _ => rfl

theorem gram_val (A B : Fin 6 → Vec Ideal S1x8x2x128 .bf16) (a b : Fin 96) :
    gram A B (ix2 a b) = ∑ c : Fin 256, gramRows A B (ix2 a c) * gramRows A B (ix2 b c) := by
  generalize h : gramRows A B = M
  pointwise [gram, h]

theorem split28 (q w n : ℕ) (h : n = 28 * q + w) (hw : w < 28) : n / 28 = q ∧ n % 28 = w := by omega

section
variable (arg10 : Memref sig .tc .vmem S2x3584x2x128 .bf16) (X : BufTy.Contents (Elt Ideal) arg10.view.ty) (k : Fin k0_t2_loop.trips)

theorem trips2 : k0_t2_loop.trips = 64 := by decide +kernel

/-- Trip `k`'s loads of the lanes' first half … -/
def LA : Fin 6 → Vec Ideal S1x8x2x128 .bf16 :=
  ![arg10.view.readAt (Elt Ideal) (Rect.unit (s := S2x3584x2x128) (k0_off16 k 0#32) S1x8x2x128.size (k0_off16_inb k 0)).toLoadRect X,
    arg10.view.readAt (Elt Ideal) (Rect.unit (s := S2x3584x2x128) (k0_off16 k 8#32) S1x8x2x128.size (k0_off16_inb k 1)).toLoadRect X,
    arg10.view.readAt (Elt Ideal) (Rect.unit (s := S2x3584x2x128) (k0_off16 k 16#32) S1x8x2x128.size (k0_off16_inb k 2)).toLoadRect X,
    arg10.view.readAt (Elt Ideal) (Rect.unit (s := S2x3584x2x128) (k0_off18 k 0#32) S1x8x2x128.size (k0_off18_inb k 0)).toLoadRect X,
    arg10.view.readAt (Elt Ideal) (Rect.unit (s := S2x3584x2x128) (k0_off18 k 8#32) S1x8x2x128.size (k0_off18_inb k 1)).toLoadRect X,
    arg10.view.readAt (Elt Ideal) (Rect.unit (s := S2x3584x2x128) (k0_off18 k 16#32) S1x8x2x128.size (k0_off18_inb k 2)).toLoadRect X]

/-- … and of the second. -/
def LB : Fin 6 → Vec Ideal S1x8x2x128 .bf16 :=
  ![arg10.view.readAt (Elt Ideal) (Rect.unit (s := S2x3584x2x128) (k0_off17 k 0#32) S1x8x2x128.size (k0_off17_inb k 0)).toLoadRect X,
    arg10.view.readAt (Elt Ideal) (Rect.unit (s := S2x3584x2x128) (k0_off17 k 8#32) S1x8x2x128.size (k0_off17_inb k 1)).toLoadRect X,
    arg10.view.readAt (Elt Ideal) (Rect.unit (s := S2x3584x2x128) (k0_off17 k 16#32) S1x8x2x128.size (k0_off17_inb k 2)).toLoadRect X,
    arg10.view.readAt (Elt Ideal) (Rect.unit (s := S2x3584x2x128) (k0_off19 k 0#32) S1x8x2x128.size (k0_off19_inb k 0)).toLoadRect X,
    arg10.view.readAt (Elt Ideal) (Rect.unit (s := S2x3584x2x128) (k0_off19 k 8#32) S1x8x2x128.size (k0_off19_inb k 1)).toLoadRect X,
    arg10.view.readAt (Elt Ideal) (Rect.unit (s := S2x3584x2x128) (k0_off19 k 16#32) S1x8x2x128.size (k0_off19_inb k 2)).toLoadRect X]

theorem r_eq : trip_k0_t2.sl.r arg10 X k = gram (LA arg10 X k) (LB arg10 X k) := rfl

variable {X1 : Vec Ideal S47x192x128 .fp8e4m3} {X2 : Vec Ideal S6x47x128 .f32} {X3 : Vec Ideal S192x128 .bf16} {arg10 X}
variable (h10 : ∀ y, (y 1).val % 28 < 24 → arg10.view.read (Elt Ideal) X y = S10 X1 X2 X3 y)
include h10

theorem word_load (t w : ℕ) (off : Fin 4 → ℕ) (ho : off = ![t, w, 0, 0]) (inb) (s : Fin 8) (p : Fin 2) (q : Fin 128)
    (y : S2x3584x2x128.Idx) (hw : (w + s.val) % 28 < 24) (y0 : (y 0).val = t) (y1 : (y 1).val = w + s.val) (y2 : (y 2).val = p.val) (y3 : (y 3).val = q.val) :
    arg10.view.readAt (Elt Ideal) (Rect.unit (s := S2x3584x2x128) off S1x8x2x128.size inb).toLoadRect X (ix4 (0 : Fin 1) s p q) = S10 X1 X2 X3 y := by
  subst ho
  rw [View.readAt_eq_ld, ← h10 y (y1 ▸ hw)]
  refine View.ld_unit_apply_of _ _ _ _ _ _ fun a => ?_
  fin_cases a
  · exact y0
  · exact y1
  · exact y2.trans (Nat.zero_add _).symm
  · exact y3.trans (Nat.zero_add _).symm

theorem LA_val (n : Fin 6) (s : Fin 8) (p : Fin 2) (q : Fin 128) (y : S2x3584x2x128.Idx) (y0 : (y 0).val = 0)
    (y1 : (y 1).val = 28 * k.val + 8 * (n.val % 3) + s.val + 1792 * (n.val / 3)) (y2 : (y 2).val = p.val) (y3 : (y 3).val = q.val) :
    LA arg10 X k n (ix4 (0 : Fin 1) s p q) = S10 X1 X2 X3 y := by
  have e16 := k0_off16_eq k
  have e18 := k0_off18_eq k
  match n, y1 with
  | 0, y1 => exact word_load h10 _ _ _ (e16 0) _ s p q y (by show (28 * k.val + 8 * 0 + s.val) % 28 < 24; omega) y0 (by rw [y1]; show _ = 28 * k.val + 8 * 0 + s.val; simp only [Fin.val_zero]; omega) y2 y3
  | 1, y1 => exact word_load h10 _ _ _ (e16 1) _ s p q y (by show (28 * k.val + 8 * 1 + s.val) % 28 < 24; omega) y0 y1 y2 y3
  | 2, y1 => exact word_load h10 _ _ _ (e16 2) _ s p q y (by show (28 * k.val + 8 * 2 + s.val) % 28 < 24; omega) y0 y1 y2 y3
  | 3, y1 => exact word_load h10 _ _ _ (e18 0) _ s p q y (by show (28 * k.val + 8 * 0 + 1792 + s.val) % 28 < 24; omega) y0 (by rw [y1]; show 28 * k.val + 8 * 0 + s.val + 1792 * 1 = 28 * k.val + 8 * 0 + 1792 + s.val; omega) y2 y3
  | 4, y1 => exact word_load h10 _ _ _ (e18 1) _ s p q y (by show (28 * k.val + 8 * 1 + 1792 + s.val) % 28 < 24; omega) y0 (by rw [y1]; show 28 * k.val + 8 * 1 + s.val + 1792 * 1 = 28 * k.val + 8 * 1 + 1792 + s.val; omega) y2 y3
  | 5, y1 => exact word_load h10 _ _ _ (e18 2) _ s p q y (by show (28 * k.val + 8 * 2 + 1792 + s.val) % 28 < 24; omega) y0 (by rw [y1]; show 28 * k.val + 8 * 2 + s.val + 1792 * 1 = 28 * k.val + 8 * 2 + 1792 + s.val; omega) y2 y3

theorem LB_val (n : Fin 6) (s : Fin 8) (p : Fin 2) (q : Fin 128) (y : S2x3584x2x128.Idx) (y0 : (y 0).val = 1)
    (y1 : (y 1).val = 28 * k.val + 8 * (n.val % 3) + s.val + 1792 * (n.val / 3)) (y2 : (y 2).val = p.val) (y3 : (y 3).val = q.val) :
    LB arg10 X k n (ix4 (0 : Fin 1) s p q) = S10 X1 X2 X3 y := by
  have e17 := k0_off17_eq k
  have e19 := k0_off19_eq k
  match n, y1 with
  | 0, y1 => exact word_load h10 _ _ _ (e17 0) _ s p q y (by show (28 * k.val + 8 * 0 + s.val) % 28 < 24; omega) y0 (by rw [y1]; show _ = 28 * k.val + 8 * 0 + s.val; simp only [Fin.val_zero]; omega) y2 y3
  | 1, y1 => exact word_load h10 _ _ _ (e17 1) _ s p q y (by show (28 * k.val + 8 * 1 + s.val) % 28 < 24; omega) y0 y1 y2 y3
  | 2, y1 => exact word_load h10 _ _ _ (e17 2) _ s p q y (by show (28 * k.val + 8 * 2 + s.val) % 28 < 24; omega) y0 y1 y2 y3
  | 3, y1 => exact word_load h10 _ _ _ (e19 0) _ s p q y (by show (28 * k.val + 8 * 0 + 1792 + s.val) % 28 < 24; omega) y0 (by rw [y1]; show 28 * k.val + 8 * 0 + s.val + 1792 * 1 = 28 * k.val + 8 * 0 + 1792 + s.val; omega) y2 y3
  | 4, y1 => exact word_load h10 _ _ _ (e19 1) _ s p q y (by show (28 * k.val + 8 * 1 + 1792 + s.val) % 28 < 24; omega) y0 (by rw [y1]; show 28 * k.val + 8 * 1 + s.val + 1792 * 1 = 28 * k.val + 8 * 1 + 1792 + s.val; omega) y2 y3
  | 5, y1 => exact word_load h10 _ _ _ (e19 2) _ s p q y (by show (28 * k.val + 8 * 2 + 1792 + s.val) % 28 < 24; omega) y0 (by rw [y1]; show 28 * k.val + 8 * 2 + s.val + 1792 * 1 = 28 * k.val + 8 * 2 + 1792 + s.val; omega) y2 y3

/-- A row of a trip's product at a lane: the dequantised feature at the lane's depth, and zero at the last 64 lanes. -/
theorem row_val (a : Fin 96) (c : Fin 256) :
    gramRows (LA arg10 X k) (LB arg10 X k) (ix2 a c)
      = if h : c.val < 192 then opd X1 X2 X3 (a.val % 48) (depthOrder ⟨c.val, h⟩) (gcol k.val a.val) else 0 := by
  have hk : k.val < 64 := trips2 ▸ k.isLt
  have key : ∀ y : S2x3584x2x128.Idx, (y 0).val = c.val / 128 → (y 1).val = 28 * k.val + 8 * (a.val / 16 % 3) + a.val % 16 / 2 + 1792 * (a.val / 16 / 3) →
      (y 2).val = a.val % 16 % 2 → (y 3).val = c.val % 128 →
      S10 X1 X2 X3 y = if h : c.val < 192 then opd X1 X2 X3 (a.val % 48) (depthOrder ⟨c.val, h⟩) (gcol k.val a.val) else 0 := by
    intro y y0 y1 y2 y3
    have e : a.val % 48 = 16 * (a.val / 16 % 3) + a.val % 16 := by omega
    have e' : a.val / 48 = a.val / 16 / 3 := by omega
    obtain ⟨q1, q2⟩ := split28 (k.val + 64 * (a.val / 16 / 3)) (8 * (a.val / 16 % 3) + a.val % 16 / 2) (y 1).val (by omega) (by omega)
    unfold S10
    by_cases hc : c.val < 192
    · rw [dif_pos (by omega), dif_pos hc]
      congr 1
      · rw [q2, y2, e]; omega
      · apply Fin.ext; show _ = 32 * ((c.val / 16) / 2) + 2 * (c.val % 16) + (c.val / 16) % 2; dsimp only; omega
      · apply Fin.ext; show _ = (k.val + 64 * (a.val / 48)) % 128; rw [e']; exact q1.trans (by omega)
    · rw [dif_neg (by omega), dif_neg hc]
  rw [gramRows_val, tile_val]
  by_cases hc : c.val < 128
  · rw [dif_pos hc]
    refine (LA_val k h10 _ _ _ _ (ix4 (0 : Fin 2) (⟨28 * k.val + 8 * (a.val / 16 % 3) + a.val % 16 / 2 + 1792 * (a.val / 16 / 3), by omega⟩ : Fin 3584) (⟨a.val % 16 % 2, by omega⟩ : Fin 2) (⟨c.val, hc⟩ : Fin 128)) rfl rfl rfl rfl).trans
      (key _ ?_ rfl rfl ?_)
    · show 0 = _; omega
    · show c.val = _; omega
  · rw [dif_neg hc]
    refine (LB_val k h10 _ _ _ _ (ix4 (1 : Fin 2) (⟨28 * k.val + 8 * (a.val / 16 % 3) + a.val % 16 / 2 + 1792 * (a.val / 16 / 3), by omega⟩ : Fin 3584) (⟨a.val % 16 % 2, by omega⟩ : Fin 2) (⟨c.val - 128, by omega⟩ : Fin 128)) rfl rfl rfl rfl).trans
      (key _ ?_ rfl rfl ?_)
    · show 1 = _; omega
    · show c.val - 128 = _; omega

/-- Entry (a, b) of trip `k`'s product. -/
theorem r_val (a b : Fin 96) : trip_k0_t2.sl.r arg10 X k (ix2 a b) = gramS X1 X2 X3 k.val a.val b.val := by
  rw [r_eq, gram_val]
  refine sum_lanes (fun d => opd X1 X2 X3 (a.val % 48) d (gcol k.val a.val) * opd X1 X2 X3 (b.val % 48) d (gcol k.val b.val)) _ (fun c => ?_) (fun c => ?_)
  · rw [row_val k h10, row_val k h10, dif_pos (show c.val < 192 from c.isLt), dif_pos (show c.val < 192 from c.isLt)]
  · rw [row_val k h10, row_val k h10, dif_neg (by show ¬ 192 + c.val < 192; omega), zero_mul]
end

end Cert.KernelIdeal.Hand

end
-- ==== Proof.KernelIdeal.Dots.lean ====
/-
  The rows of the Gram products as they are kept: argument 11 (the pairs' rows) and argument 12 (row 0).
-/
module

public import proofs.«01_k».proof.Proof.KernelIdeal.Gram

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section payloads
variable (M : FVec Ideal S96x96 .f32) (r : Fin 8) (p : Fin 2) (l : Fin 96)

/-- Rows 32 … 47 beside rows 48 … 63 of the product. -/
def pack25 : Vec Ideal S8x2x96 .bf16 :=
  k0_pay77 M k0_pay70 (truncf .bf16 (extractStridedSlice S8x96 ![48, 0] M slices_S96x96_o48_0_S8x96)) (truncf .bf16 (extractStridedSlice S8x96 ![56, 0] M slices_S96x96_o56_0_S8x96))
def pack26 : Vec Ideal S8x2x96 .bf16 :=
  k0_pay78 M k0_pay70 (truncf .bf16 (extractStridedSlice S8x96 ![0, 0] M slices_S96x96_o0_0_S8x96)) (truncf .bf16 (extractStridedSlice S8x96 ![8, 0] M slices_S96x96_o8_0_S8x96))
def pack27 : Vec Ideal S8x2x96 .bf16 :=
  k0_pay223 (k0_pay79 M k0_pay70 (truncf .bf16 (extractStridedSlice S8x96 ![16, 0] M slices_S96x96_o16_0_S8x96)))
    (k0_pay80 M k0_pay70 (truncf .bf16 (extractStridedSlice S8x96 ![24, 0] M slices_S96x96_o24_0_S8x96)))

def pack12 (o : Fin 2) : Vec Ideal S1x96 .f32 :=
  match o with
  | 0 => shapeCast S1x96 (extractStridedSlice S1x96 ![0, 0] M slices_S96x96_o0_0_S1x96) shapeCasts_S1x96_S1x96
  | 1 => shapeCast S1x96 (extractStridedSlice S1x96 ![48, 0] M slices_S96x96_o48_0_S1x96) shapeCasts_S1x96_S1x96

theorem lane_lt : ∀ l : Fin 96, IntOp.cmpi .slt (BitVec.ofNat 32 l.val) 48#32 = BitVec.ofBool (decide (l.val < 48)) := by decide +kernel

theorem pick (a b e : Fin 96) (ha : l.val < 48 → a = e) (hb : ¬ l.val < 48 → b = e) :
    Scalar.select (IntOp.cmpi .slt (BitVec.ofNat 32 l.val) 48#32) (M (ix2 a l)) (M (ix2 b l)) = M (ix2 e l) := by
  rw [lane_lt]
  by_cases h : l.val < 48
  · rw [← ha h]; simp [Scalar.select, h]
  · rw [← hb h]; simp [Scalar.select, h]

theorem pack25_val : pack25 M (ix3 r p l) = M (ix2 (⟨if l.val < 48 then 32 + r.val + 8 * p.val else 48 + r.val + 8 * p.val, by split <;> omega⟩ : Fin 96) l) := by
  fin_cases p <;> pointwise [pack25, k0_pay77, k0_pay70] <;>
    exact pick M l _ _ _ (fun h => Fin.ext (by dsimp only; rw [if_pos h]; try omega)) (fun h => Fin.ext (by dsimp only; rw [if_neg h]; try omega))

theorem pack26_val : pack26 M (ix3 r p l) = M (ix2 (⟨if l.val < 48 then r.val + 8 * p.val else 80 + r.val + 8 * p.val, by split <;> omega⟩ : Fin 96) l) := by
  fin_cases p <;> pointwise [pack26, k0_pay78, k0_pay70] <;>
    exact pick M l _ _ _ (fun h => Fin.ext (by dsimp only; rw [if_pos h]; try omega)) (fun h => Fin.ext (by dsimp only; rw [if_neg h]; try omega))

theorem pack27_val : pack27 M (ix3 r p l) = M (ix2 (⟨if l.val < 48 then 16 + r.val + 8 * p.val else 64 + (r.val + 4) % 8 + 8 * p.val, by split <;> omega⟩ : Fin 96) l) := by
  fin_cases p <;> pointwise [pack27, k0_pay223, k0_pay79, k0_pay80, k0_pay70] <;>
    exact pick M l _ _ _ (fun h => Fin.ext (by dsimp only; rw [if_pos h]; try omega)) (fun h => Fin.ext (by dsimp only; rw [if_neg h]; try omega))

theorem pack12_val (o : Fin 2) : pack12 M o (ix2 (0 : Fin 1) l) = M (ix2 (⟨48 * o.val, by omega⟩ : Fin 96) l) := by
  fin_cases o <;> pointwise [pack12]
end payloads

/-- The product's row kept in slot `s`, half `p`: at lanes 0 … 47 (column `k`) … -/
def slotA (s p : ℕ) : ℕ := if s < 8 then 32 + s + 8 * p else if s < 16 then s - 8 + 8 * p else s + 8 * p

/-- … and at lanes 48 … 95 (column `k + 64`). -/
def slotB (s p : ℕ) : ℕ := if s < 8 then 48 + s + 8 * p else if s < 16 then 72 + s + 8 * p else 64 + (s - 12) % 8 + 8 * p

/-- The rows as they lie in argument 11. -/
def S11 (X1 : Vec Ideal S47x192x128 .fp8e4m3) (X2 : Vec Ideal S6x47x128 .f32) (X3 : Vec Ideal S192x128 .bf16) : Vec Ideal S1792x2x128 .bf16 := fun y =>
  gramS X1 X2 X3 ((y 0).val / 28) (if (y 2).val < 48 then slotA ((y 0).val % 28) (y 1).val else slotB ((y 0).val % 28) (y 1).val) (y 2).val

/-- Row 0 of every product as it lies in argument 12. -/
def S12 (X1 : Vec Ideal S47x192x128 .fp8e4m3) (X2 : Vec Ideal S6x47x128 .f32) (X3 : Vec Ideal S192x128 .bf16) : Vec Ideal S128x128 .f32 := fun y =>
  gramS X1 X2 X3 ((y 0).val % 64) (48 * ((y 0).val / 64)) (y 1).val

section
variable {arg10 : Memref sig .tc .vmem S2x3584x2x128 .bf16} {X : BufTy.Contents (Elt Ideal) arg10.view.ty} (k : Fin k0_t2_loop.trips)
variable {X1 : Vec Ideal S47x192x128 .fp8e4m3} {X2 : Vec Ideal S6x47x128 .f32} {X3 : Vec Ideal S192x128 .bf16}
variable (h10 : ∀ y, (y 1).val % 28 < 24 → arg10.view.read (Elt Ideal) X y = S10 X1 X2 X3 y)
include h10

/-- Eight slots from slot `t` of trip `k` hold what argument 11 is to hold. -/
theorem slots_piece (P : Vec Ideal S8x2x96 .bf16) (t : ℕ) (ht : t + 8 ≤ 28) (e : Fin 8 → Fin 2 → Fin 96 → Fin 96)
    (hP : ∀ r p l, P (ix3 r p l) = trip_k0_t2.sl.r arg10 X k (ix2 (e r p l) l))
    (he : ∀ r p l, (e r p l).val = if l.val < 48 then slotA (t + r.val) p.val else slotB (t + r.val) p.val)
    (off : Fin 3 → ℕ) (ho : off = ![28 * k.val + t, 0, 0]) (inb) (x : S8x2x96.Idx) :
    P x = S11 X1 X2 X3 ((Rect.unit (s := S1792x2x128) off S8x2x96.size inb).emb x) := by
  subst ho
  obtain ⟨r, p, l, rfl⟩ : ∃ (r : Fin 8) (p : Fin 2) (l : Fin 96), x = ix3 r p l := ⟨x 0, x 1, x 2, eq_ix3 x⟩
  have e0 : (((Rect.unit (s := S1792x2x128) ![28 * k.val + t, 0, 0] S8x2x96.size inb).emb (ix3 r p l) : S1792x2x128.Idx) 0).val = 28 * k.val + t + r.val := emb_unit_val _ _ _ _ _
  have e1 : (((Rect.unit (s := S1792x2x128) ![28 * k.val + t, 0, 0] S8x2x96.size inb).emb (ix3 r p l) : S1792x2x128.Idx) 1).val = p.val := (emb_unit_val _ _ _ _ _).trans (Nat.zero_add _)
  have e2 : (((Rect.unit (s := S1792x2x128) ![28 * k.val + t, 0, 0] S8x2x96.size inb).emb (ix3 r p l) : S1792x2x128.Idx) 2).val = l.val := (emb_unit_val _ _ _ _ _).trans (Nat.zero_add _)
  rw [hP, r_val k h10, he]
  unfold S11
  rw [e0, e1, e2, show (28 * k.val + t + r.val) / 28 = k.val by omega, show (28 * k.val + t + r.val) % 28 = t + r.val by omega]

theorem row_piece (o : Fin 2) (off : Fin 2 → ℕ) (ho : off = ![k.val + 64 * o.val, 0]) (inb) (x : S1x96.Idx) :
    pack12 (trip_k0_t2.sl.r arg10 X k) o x = S12 X1 X2 X3 ((Rect.unit (s := S128x128) off S1x96.size inb).emb x) := by
  subst ho
  have hk : k.val < 64 := trips2 ▸ k.isLt
  obtain ⟨r, l, rfl⟩ : ∃ (r : Fin 1) (l : Fin 96), x = ix2 r l := ⟨x 0, x 1, eq_ix2 x⟩
  obtain rfl : r = 0 := Subsingleton.elim _ _
  have e0 : (((Rect.unit (s := S128x128) ![k.val + 64 * o.val, 0] S1x96.size inb).emb (ix2 0 l) : S128x128.Idx) 0).val = k.val + 64 * o.val := emb_unit_val _ _ _ _ _
  have e1 : (((Rect.unit (s := S128x128) ![k.val + 64 * o.val, 0] S1x96.size inb).emb (ix2 0 l) : S128x128.Idx) 1).val = l.val := (emb_unit_val _ _ _ _ _).trans (Nat.zero_add _)
  rw [pack12_val, r_val k h10]
  unfold S12
  rw [e0, e1, show (k.val + 64 * o.val) % 64 = k.val by omega, show (k.val + 64 * o.val) / 64 = o.val by omega]
end

section
variable (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole)
variable (c : Dev nD) (u v w x : FVec Ideal S128x128 .bf16)

/-- What one trip writes. -/
theorem gram_list (X : BufTy.Contents (Elt Ideal) arg10.view.ty) (k : Fin k0_t2_loop.trips) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x X k
      = ([⟨Rect.unit (s := S1792x2x128) (k0_off23 k 16#32) S8x2x96.size (k0_off23_inb k 1), pack27 (trip_k0_t2.sl.r arg10 X k)⟩,
          ⟨Rect.unit (s := S1792x2x128) (k0_off23 k 8#32) S8x2x96.size (k0_off23_inb k 0), pack26 (trip_k0_t2.sl.r arg10 X k)⟩,
          ⟨Rect.unit (s := S1792x2x128) (k0_off22 k) S8x2x96.size (k0_off22_inb k), pack25 (trip_k0_t2.sl.r arg10 X k)⟩],
         [⟨Rect.unit (s := S128x128) (k0_off21 k) S1x96.size (k0_off21_inb k), pack12 (trip_k0_t2.sl.r arg10 X k) 1⟩,
          ⟨Rect.unit (s := S128x128) (k0_off20 k) S1x96.size (k0_off20_inb k), pack12 (trip_k0_t2.sl.r arg10 X k) 0⟩]) := by
  unfold tripL_k0_t2 trip_k0_t2
  rfl

variable {X : BufTy.Contents (Elt Ideal) arg10.view.ty} {X1 : Vec Ideal S47x192x128 .fp8e4m3} {X2 : Vec Ideal S6x47x128 .f32} {X3 : Vec Ideal S192x128 .bf16}

theorem gram_pieces (h10 : ∀ y, (y 1).val % 28 < 24 → arg10.view.read (Elt Ideal) X y = S10 X1 X2 X3 y) :
    ∀ n, n ≤ k0_t2_loop.trips → View.PiecesOf (S11 X1 X2 X3) (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x X n).1
      ∧ View.PiecesOf (S12 X1 X2 X3) (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x X n).2
  | 0, _ => by rw [pb_k0_t2.eq_1]; exact ⟨trivial, trivial⟩
  | n + 1, hn => by
    have ih := gram_pieces h10 n (Nat.le_of_succ_le hn)
    rw [show n + 1 = (⟨n, hn⟩ : Fin k0_t2_loop.trips).val + 1 from rfl, pb_k0_t2_succ, gram_list]
    have e23 := k0_off23_eq ⟨n, hn⟩
    refine ⟨⟨?_, ?_, ?_, ih.1⟩, ?_, ?_, ih.2⟩
    · refine slots_piece ⟨n, hn⟩ h10 _ 16 (by omega) _ (pack27_val _) (fun r p l => ?_) _ (e23 1) (k0_off23_inb ⟨n, hn⟩ 1)
      dsimp only [slotA, slotB]
      split_ifs <;> omega
    · refine slots_piece ⟨n, hn⟩ h10 _ 8 (by omega) _ (pack26_val _) (fun r p l => ?_) _ (e23 0) (k0_off23_inb ⟨n, hn⟩ 0)
      dsimp only [slotA, slotB]
      split_ifs <;> omega
    · refine slots_piece ⟨n, hn⟩ h10 _ 0 (by omega) _ (pack25_val _) (fun r p l => ?_) _ (k0_off22_eq ⟨n, hn⟩) (k0_off22_inb ⟨n, hn⟩)
      dsimp only [slotA, slotB]
      split_ifs <;> omega
    · exact row_piece ⟨n, hn⟩ h10 1 _ (k0_off21_eq ⟨n, hn⟩) (k0_off21_inb ⟨n, hn⟩)
    · exact row_piece ⟨n, hn⟩ h10 0 _ (k0_off20_eq ⟨n, hn⟩) (k0_off20_inb ⟨n, hn⟩)

theorem slots_cover (y : S1792x2x128.Idx) (hs : (y 0).val % 28 < 24) (hl : (y 2).val < 96) :
    ∀ n, n ≤ k0_t2_loop.trips → (y 0).val / 28 < n → ∃ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x X n).1, y ∈ p.1.set
  | 0, _, h => absurd h (by omega)
  | n + 1, hn, h => by
    have y1 : (y 1).val < 2 := (y 1).isLt
    rw [show n + 1 = (⟨n, hn⟩ : Fin k0_t2_loop.trips).val + 1 from rfl, pb_k0_t2_succ, gram_list]
    by_cases e : (y 0).val / 28 = n
    · have e23 := k0_off23_eq ⟨n, hn⟩
      have mem : ∀ (off : Fin 3 → ℕ) (t : ℕ) (_ : off = ![28 * n + t, 0, 0]) (inb), t ≤ (y 0).val % 28 → (y 0).val % 28 < t + 8 →
          y ∈ (Rect.unit (s := S1792x2x128) off S8x2x96.size inb).set := by
        intro off t ho inb h1 h2
        subst ho
        refine (Rect.mem_set_unit (inb := inb)).mpr fun a => ?_
        fin_cases a
        · show 28 * n + t ≤ (y 0).val ∧ (y 0).val < 28 * n + t + 8; omega
        · show 0 ≤ (y 1).val ∧ (y 1).val < 0 + 2; omega
        · show 0 ≤ (y 2).val ∧ (y 2).val < 0 + 96; omega
      by_cases h8 : (y 0).val % 28 < 8
      · exact ⟨_, List.mem_append_left _ (List.mem_cons_of_mem _ (List.mem_cons_of_mem _ List.mem_cons_self)), mem _ 0 (k0_off22_eq ⟨n, hn⟩) (k0_off22_inb ⟨n, hn⟩) (by omega) (by omega)⟩
      by_cases h16 : (y 0).val % 28 < 16
      · exact ⟨_, List.mem_append_left _ (List.mem_cons_of_mem _ List.mem_cons_self), mem _ 8 (e23 0) (k0_off23_inb ⟨n, hn⟩ 0) (by omega) (by omega)⟩
      · exact ⟨_, List.mem_append_left _ List.mem_cons_self, mem _ 16 (e23 1) (k0_off23_inb ⟨n, hn⟩ 1) (by omega) (by omega)⟩
    · obtain ⟨p, hp, hm⟩ := slots_cover y hs hl n (Nat.le_of_succ_le hn) (by omega)
      exact ⟨p, List.mem_append_right _ hp, hm⟩

theorem rows_cover (y : S128x128.Idx) (hl : (y 1).val < 96) :
    ∀ n, n ≤ k0_t2_loop.trips → (y 0).val % 64 < n → ∃ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 u v w x X n).2, y ∈ p.1.set
  | 0, _, h => absurd h (by omega)
  | n + 1, hn, h => by
    have y0 : (y 0).val < 128 := (y 0).isLt
    rw [show n + 1 = (⟨n, hn⟩ : Fin k0_t2_loop.trips).val + 1 from rfl, pb_k0_t2_succ, gram_list]
    by_cases e : (y 0).val % 64 = n
    · have mem : ∀ (off : Fin 2 → ℕ) (_ : off = ![(y 0).val, 0]) (inb), y ∈ (Rect.unit (s := S128x128) off S1x96.size inb).set := by
        intro off ho inb
        subst ho
        refine (Rect.mem_set_unit (inb := inb)).mpr fun a => ?_
        fin_cases a
        · show (y 0).val ≤ (y 0).val ∧ (y 0).val < (y 0).val + 1; omega
        · show 0 ≤ (y 1).val ∧ (y 1).val < 0 + 96; omega
      by_cases h64 : (y 0).val < 64
      · exact ⟨_, List.mem_append_left _ (List.mem_cons_of_mem _ List.mem_cons_self), mem _ ((k0_off20_eq ⟨n, hn⟩).trans (congrArg (![·, 0]) (by show n = _; omega))) (k0_off20_inb ⟨n, hn⟩)⟩
      · exact ⟨_, List.mem_append_left _ List.mem_cons_self, mem _ ((k0_off21_eq ⟨n, hn⟩).trans (congrArg (![·, 0]) (by show n + 64 = _; omega))) (k0_off21_inb ⟨n, hn⟩)⟩
    · obtain ⟨p, hp, hm⟩ := rows_cover y hl n (Nat.le_of_succ_le hn) (by omega)
      exact ⟨p, List.mem_append_right _ hp, hm⟩
end

end Cert.KernelIdeal.Hand

end
-- ==== Proof.KernelIdeal.Triangle.lean ====
/-
  The triangle of dot products (argument 13).
-/
module

public import proofs.«01_k».proof.Proof.KernelIdeal.Dots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The dot product a row `n` of the triangle holds is that of features `triI n` and `triJ n`, `triJ n < triI n`. -/
def triI (n : ℕ) : ℕ := (1 + Nat.sqrt (8 * n + 1)) / 2
def triJ (n : ℕ) : ℕ := n - triI n * (triI n - 1) / 2

theorem tri_at : ∀ i : Fin 48, ∀ j : Fin 48, j.val < i.val → triI (i.val * (i.val - 1) / 2 + j.val) = i.val ∧ triJ (i.val * (i.val - 1) / 2 + j.val) = j.val := by
  decide +kernel

/-- The triangle of dot products as it lies in argument 13. -/
def S13 (X1 : Vec Ideal S47x192x128 .fp8e4m3) (X2 : Vec Ideal S6x47x128 .f32) (X3 : Vec Ideal S192x128 .bf16) : Vec Ideal S1128x128 .f32 := fun y =>
  dotv X1 X2 X3 (triI (y 0).val) (triJ (y 0).val) (y 1)

section planes
variable (p : Fin 2) (v w : Vec Ideal S64x2x128 .bf16)

/-- Half `p` of two slots of the 64 trips, a column per batch entry. -/
def planeT : FVec Ideal S128x128 .bf16 :=
  truncf .bf16 (transpose S128x128 [1, 0] (extf (F := Ideal) .f32 (concatenate S128x128 0
    [⟨S64x128, shapeCast S64x128 (rowsOfParity p S64x1x128 v bitcasts_S64x2x128_w16_S64x1x128_w32) shapeCasts_S64x1x128_S64x128⟩,
     ⟨S64x128, shapeCast S64x128 (rowsOfParity p S64x1x128 w bitcasts_S64x2x128_w16_S64x1x128_w32) shapeCasts_S64x1x128_S64x128⟩]
    concatenates_S64x128_S64x128_S128x128_d0 : FVec Ideal S128x128 .bf16)) transposes_S128x128_p1_0_S128x128)

def headT : FVec Ideal S48x128 .bf16 := extractStridedSlice S48x128 ![0, 0] (planeT p v w) slices_S128x128_o0_0_S48x128
def tailT : FVec Ideal S48x128 .bf16 := extractStridedSlice S48x128 ![48, 0] (planeT p v w) slices_S128x128_o48_0_S48x128

/-- The first slot's columns 0 … 63 beside the second slot's columns 64 … 127. -/
def straight : FVec Ideal S48x128 .f32 := extf .f32 (select k0_pay224 (headT p v w) (tailT p v w))

/-- The second slot's columns 0 … 63 beside the first slot's columns 64 … 127. -/
def rot16 : FVec Ideal S16x128 .f32 :=
  extf .f32 (dynamicRotate 1 64#32 none (select (extractStridedSlice S16x128 ![0, 0] k0_pay224 slices_S48x128_o0_0_S16x128)
    (extractStridedSlice S16x128 ![0, 0] (tailT p v w) slices_S48x128_o0_0_S16x128) (extractStridedSlice S16x128 ![0, 0] (headT p v w) slices_S48x128_o0_0_S16x128)) rotates_S16x128_d1)
def rot32 : FVec Ideal S32x128 .f32 :=
  extf .f32 (dynamicRotate 1 64#32 none (select (extractStridedSlice S32x128 ![0, 0] k0_pay224 slices_S48x128_o0_0_S32x128)
    (extractStridedSlice S32x128 ![0, 0] (tailT p v w) slices_S48x128_o0_0_S32x128) (extractStridedSlice S32x128 ![0, 0] (headT p v w) slices_S48x128_o0_0_S32x128)) rotates_S32x128_d1)

theorem planeT_val (a l : Fin 128) : planeT p v w (ix2 a l) = if h : l.val < 64 then v (ix3 (⟨l.val, h⟩ : Fin 64) p a) else w (ix3 (⟨l.val - 64, by omega⟩ : Fin 64) p a) := by
  fin_cases p <;> pointwise [planeT]

theorem half_lt : ∀ l : Fin 128, IntOp.cmpi .slt (BitVec.ofNat 32 l.val) 64#32 = BitVec.ofBool (decide (l.val < 64)) := by decide +kernel

theorem select_half (l : Fin 128) (a b : EReal) : Scalar.select (IntOp.cmpi .slt (BitVec.ofNat 32 l.val) 64#32) a b = if l.val < 64 then a else b := by
  rw [half_lt]; by_cases h : l.val < 64 <;> simp [Scalar.select, h]

theorem rot_half (T : FVec Ideal S128x128 .bf16) (e : ∀ (a l : Fin 128), T (ix2 a l) = if h : l.val < 64 then v (ix3 (⟨l.val, h⟩ : Fin 64) p a) else w (ix3 (⟨l.val - 64, by omega⟩ : Fin 64) p a))
    (a b l : Fin 128) :
    Scalar.select (IntOp.cmpi .slt (BitVec.ofNat 32 ((l.val + 128 - 64) % 128)) 64#32) (T (ix2 a (⟨(l.val + 128 - 64) % 128, Nat.mod_lt _ (by omega)⟩ : Fin 128)))
      (T (ix2 b (⟨(l.val + 128 - 64) % 128, Nat.mod_lt _ (by omega)⟩ : Fin 128)))
      = if h : l.val < 64 then w (ix3 (⟨l.val, h⟩ : Fin 64) p b) else v (ix3 (⟨l.val - 64, by omega⟩ : Fin 64) p a) := by
  refine (select_half (⟨(l.val + 128 - 64) % 128, Nat.mod_lt _ (by omega)⟩ : Fin 128) _ _).trans ?_
  dsimp only
  rw [e, e]
  dsimp only
  by_cases h : l.val < 64
  · rw [if_neg (by omega), dif_neg (by omega), dif_pos h]
    congr 3; omega
  · rw [if_pos (by omega), dif_pos (by omega), dif_neg h]
    congr 3; omega

theorem straight_val (j : Fin 48) (l : Fin 128) :
    straight p v w (ix2 j l) = if h : l.val < 64 then v (ix3 (⟨l.val, h⟩ : Fin 64) p (⟨j.val, by omega⟩ : Fin 128)) else w (ix3 (⟨l.val - 64, by omega⟩ : Fin 64) p (⟨48 + j.val, by omega⟩ : Fin 128)) := by
  have e := planeT_val p v w
  generalize hT : planeT p v w = T at e
  pointwise [straight, headT, tailT, k0_pay224, hT]
  refine (select_half l _ _).trans ?_
  by_cases h : l.val < 64
  · rw [if_pos h, dif_pos h, e, dif_pos h]
  · rw [if_neg h, dif_neg h, e, dif_neg h]

theorem rot16_val (j : Fin 16) (l : Fin 128) :
    rot16 p v w (ix2 j l) = if h : l.val < 64 then w (ix3 (⟨l.val, h⟩ : Fin 64) p (⟨j.val, by omega⟩ : Fin 128)) else v (ix3 (⟨l.val - 64, by omega⟩ : Fin 64) p (⟨48 + j.val, by omega⟩ : Fin 128)) := by
  have e := planeT_val p v w
  generalize hT : planeT p v w = T at e
  pointwise [rot16, headT, tailT, k0_pay224, hT]
  exact rot_half p v w T e _ _ l

theorem rot32_val (j : Fin 32) (l : Fin 128) :
    rot32 p v w (ix2 j l) = if h : l.val < 64 then w (ix3 (⟨l.val, h⟩ : Fin 64) p (⟨j.val, by omega⟩ : Fin 128)) else v (ix3 (⟨l.val - 64, by omega⟩ : Fin 64) p (⟨48 + j.val, by omega⟩ : Fin 128)) := by
  have e := planeT_val p v w
  generalize hT : planeT p v w = T at e
  pointwise [rot32, headT, tailT, k0_pay224, hT]
  exact rot_half p v w T e _ _ l
end planes

section
variable {X1 : Vec Ideal S47x192x128 .fp8e4m3} {X2 : Vec Ideal S6x47x128 .f32} {X3 : Vec Ideal S192x128 .bf16}

theorem gramS_low (k a b : ℕ) (hk : k < 64) (ha : a < 48) (hb : b < 48) (l : Fin 128) (hl : l.val = k) : gramS X1 X2 X3 k a b = dotv X1 X2 X3 a b l := by
  unfold gramS dotv
  have : ∀ n, n < 48 → gcol k n = l := fun n hn => Fin.ext (by show (k + 64 * (n / 48)) % 128 = _; omega)
  rw [this a ha, this b hb, Nat.mod_eq_of_lt ha, Nat.mod_eq_of_lt hb]

theorem gramS_high (k a b : ℕ) (hk : k < 64) (ha : a < 48) (hb : b < 48) (l : Fin 128) (hl : l.val = k + 64) : gramS X1 X2 X3 k (48 + a) (48 + b) = dotv X1 X2 X3 a b l := by
  unfold gramS dotv
  have : ∀ n, n < 48 → gcol k (48 + n) = l := fun n hn => Fin.ext (by show (k + 64 * ((48 + n) / 48)) % 128 = _; omega)
  rw [this a ha, this b hb, show (48 + a) % 48 = a by omega, show (48 + b) % 48 = b by omega]

end

theorem slices_head (n i : ℕ) (h : i ≤ n) : Shape.Slices (⟨2, ![n, 128]⟩ : Shape) ![0, 0] (⟨2, ![i, 128]⟩ : Shape) :=
  ⟨rfl, fun a => by fin_cases a; (show 0 + i ≤ n; omega); (show 0 + 128 ≤ 128; omega)⟩

/-- The first `i` rows. -/
def cut (n i : ℕ) (h : i ≤ n) (v : FVec Ideal (⟨2, ![n, 128]⟩ : Shape) .f32) : FVec Ideal (⟨2, ![i, 128]⟩ : Shape) .f32 :=
  shapeCast _ (extractStridedSlice (⟨2, ![i, 128]⟩ : Shape) ![0, 0] v (slices_head n i h)) rfl

theorem cut_val (n i : ℕ) (h : i ≤ n) (v : FVec Ideal (⟨2, ![n, 128]⟩ : Shape) .f32) (r : Fin i) (l : Fin 128) :
    cut n i h v (ix2 r l) = v (ix2 (⟨r.val, by omega⟩ : Fin n) l) := by
  unfold cut
  rw [shapeCast_self]
  refine extractStridedSlice_apply _ _ _ _ _ fun a => ?_
  fin_cases a
  · exact (Nat.zero_add _).symm
  · exact (Nat.zero_add _).symm

section
variable {arg11 : Memref sig .tc .vmem S1792x2x128 .bf16} {X : BufTy.Contents (Elt Ideal) arg11.view.ty}

theorem slot_inb (row : Fin 28) : ∀ a, (![row.val, 0, 0] : Fin 3 → ℕ) a + (![28, 1, 1] : Fin 3 → ℕ) a * (S64x2x128.size a - 1) < S1792x2x128.size a := by
  intro a; fin_cases a
  · show row.val + 28 * 63 < 1792; omega
  · show 0 + 1 * 1 < 2; omega
  · show 0 + 1 * 127 < 128; omega

/-- Slot `row` of all 64 trips. -/
def rd (arg11 : Memref sig .tc .vmem S1792x2x128 .bf16) (X : BufTy.Contents (Elt Ideal) arg11.view.ty) (row : Fin 28) : Vec Ideal S64x2x128 .bf16 :=
  arg11.view.readAt (Elt Ideal) ⟨![row.val, 0, 0], S64x2x128.size, ![28, 1, 1], fun a => .inr (slot_inb row a)⟩ X

variable {X1 : Vec Ideal S47x192x128 .fp8e4m3} {X2 : Vec Ideal S6x47x128 .f32} {X3 : Vec Ideal S192x128 .bf16}
variable (h11 : ∀ y, (y 0).val % 28 < 24 → (y 2).val < 96 → arg11.view.read (Elt Ideal) X y = S11 X1 X2 X3 y)
include h11

theorem rd_val (row : Fin 28) (hr : row.val < 24) (b : Fin 64) (p : Fin 2) (q : Fin 128) (hq : q.val < 96) :
    rd arg11 X row (ix3 b p q) = gramS X1 X2 X3 b.val (if q.val < 48 then slotA row.val p.val else slotB row.val p.val) q.val := by
  have e : ∀ y : S1792x2x128.Idx, (y 0).val = row.val + 28 * b.val → (y 1).val = p.val → (y 2).val = q.val → arg11.view.read (Elt Ideal) X y
      = gramS X1 X2 X3 b.val (if q.val < 48 then slotA row.val p.val else slotB row.val p.val) q.val := by
    intro y y0 y1 y2
    rw [h11 y (by omega) (by omega)]
    unfold S11
    rw [y0, y1, y2, show (row.val + 28 * b.val) / 28 = b.val by omega, show (row.val + 28 * b.val) % 28 = row.val by omega]
  unfold rd
  refine e (LoadRect.idx (⟨![row.val, 0, 0], S64x2x128.size, ![28, 1, 1], fun a => .inr (slot_inb row a)⟩ : LoadRect S1792x2x128) (ix3 b p q)) ?_ ?_ ?_
  · exact LoadRect.idx_apply _ _ _
  · exact (LoadRect.idx_apply _ _ _).trans (by show 0 + 1 * p.val = _; omega)
  · exact (LoadRect.idx_apply _ _ _).trans (by show 0 + 1 * q.val = _; omega)

/-- A piece of the triangle whose rows are the dot products of feature `i` with the features before it. -/
theorem tri_piece (i : ℕ) (hi : i < 48) (P : FVec Ideal (⟨2, ![i, 128]⟩ : Shape) .f32) (hP : ∀ (j : Fin i) (l : Fin 128), P (ix2 j l) = dotv X1 X2 X3 i j.val l)
    (o : ℕ) (ho : o = i * (i - 1) / 2) (inb) (x : (⟨2, ![i, 128]⟩ : Shape).Idx) :
    P x = S13 X1 X2 X3 ((Rect.unit (s := S1128x128) ![o, 0] ![i, 128] inb).emb x) := by
  obtain ⟨j, l, rfl⟩ : ∃ (j : Fin i) (l : Fin 128), x = ix2 j l := ⟨x 0, x 1, eq_ix2 x⟩
  have e0 : (((Rect.unit (s := S1128x128) ![o, 0] ![i, 128] inb).emb (ix2 j l) : S1128x128.Idx) 0).val = o + j.val := emb_unit_val _ _ _ _ _
  have e1 : ((Rect.unit (s := S1128x128) ![o, 0] ![i, 128] inb).emb (ix2 j l) : S1128x128.Idx) 1 = l := Fin.ext ((emb_unit_val _ _ _ _ _).trans (Nat.zero_add _))
  obtain ⟨t1, t2⟩ := tri_at ⟨i, hi⟩ ⟨j.val, by omega⟩ j.isLt
  rw [hP]
  unfold S13
  rw [e0, e1, ho]
  exact congrArg₂ (fun a b => dotv X1 X2 X3 a b l) t1.symm t2.symm

theorem tri_straight (i : ℕ) (p : Fin 2) (row row' : Fin 28) (hA : slotA row.val p.val = i) (hB : slotB row'.val p.val = 48 + i) (hi : i < 48) (hr : row.val < 24 ∧ row'.val < 24)
    (o : ℕ) (ho : o = i * (i - 1) / 2) (inb) (P : FVec Ideal (⟨2, ![i, 128]⟩ : Shape) .f32)
    (hP : P = cut 48 i (by omega) (straight p (rd arg11 X row) (rd arg11 X row'))) (x : (⟨2, ![i, 128]⟩ : Shape).Idx) :
    P x = S13 X1 X2 X3 ((Rect.unit (s := S1128x128) ![o, 0] ![i, 128] inb).emb x) := by
  refine tri_piece h11 i hi P (fun j l => ?_) o ho inb x
  rw [hP, cut_val, straight_val]
  by_cases h : l.val < 64
  · rw [dif_pos h, rd_val h11 row hr.1 _ _ _ (by dsimp only; omega), if_pos (by dsimp only; omega), hA]
    exact gramS_low _ _ _ h hi (by show j.val < 48; omega) l rfl
  · rw [dif_neg h, rd_val h11 row' hr.2 _ _ (⟨48 + j.val, by omega⟩ : Fin 128) (by show 48 + j.val < 96; omega), if_neg (by show ¬ 48 + j.val < 48; omega), hB]
    exact gramS_high _ _ _ (by dsimp only; omega) hi (by omega) l (by dsimp only; omega)

theorem tri_rot (n : ℕ) (R : FVec Ideal (⟨2, ![n, 128]⟩ : Shape) .f32) (hn : n ≤ 48) (i : ℕ) (p : Fin 2) (row row' : Fin 28)
    (hR : ∀ (j : Fin n) (l : Fin 128), R (ix2 j l) = if h : l.val < 64 then rd arg11 X row' (ix3 (⟨l.val, h⟩ : Fin 64) p (⟨j.val, by omega⟩ : Fin 128))
      else rd arg11 X row (ix3 (⟨l.val - 64, by omega⟩ : Fin 64) p (⟨48 + j.val, by omega⟩ : Fin 128)))
    (hA : slotA row'.val p.val = i) (hB : slotB row.val p.val = 48 + i) (hi : i ≤ n ∧ i < 48) (hr : row.val < 24 ∧ row'.val < 24)
    (o : ℕ) (ho : o = i * (i - 1) / 2) (inb) (P : FVec Ideal (⟨2, ![i, 128]⟩ : Shape) .f32)
    (hP : P = cut n i hi.1 R) (x : (⟨2, ![i, 128]⟩ : Shape).Idx) :
    P x = S13 X1 X2 X3 ((Rect.unit (s := S1128x128) ![o, 0] ![i, 128] inb).emb x) := by
  refine tri_piece h11 i hi.2 P (fun j l => ?_) o ho inb x
  rw [hP, cut_val, hR]
  by_cases h : l.val < 64
  · rw [dif_pos h, rd_val h11 row' hr.2 _ _ _ (by dsimp only; omega), if_pos (by dsimp only; omega), hA]
    exact gramS_low _ _ _ h hi.2 (by show j.val < 48; omega) l rfl
  · rw [dif_neg h, rd_val h11 row hr.1 _ _ (⟨48 + j.val, by omega⟩ : Fin 128) (by show 48 + j.val < 96; omega), if_neg (by show ¬ 48 + j.val < 48; omega), hB]
    exact gramS_high _ _ _ (by dsimp only; omega) hi.2 (by omega) l (by dsimp only; omega)

theorem tri_rot16 (i : ℕ) (p : Fin 2) (row row' : Fin 28) (hA : slotA row'.val p.val = i) (hB : slotB row.val p.val = 48 + i) (hi : i ≤ 16 ∧ i < 48) (hr : row.val < 24 ∧ row'.val < 24)
    (o : ℕ) (ho : o = i * (i - 1) / 2) (inb) (P : FVec Ideal (⟨2, ![i, 128]⟩ : Shape) .f32)
    (hP : P = cut 16 i hi.1 (rot16 p (rd arg11 X row) (rd arg11 X row'))) (x : (⟨2, ![i, 128]⟩ : Shape).Idx) :
    P x = S13 X1 X2 X3 ((Rect.unit (s := S1128x128) ![o, 0] ![i, 128] inb).emb x) :=
  tri_rot h11 16 _ (by omega) i p row row' (rot16_val p _ _) hA hB hi hr o ho inb P hP x

theorem tri_rot32 (i : ℕ) (p : Fin 2) (row row' : Fin 28) (hA : slotA row'.val p.val = i) (hB : slotB row.val p.val = 48 + i) (hi : i ≤ 32 ∧ i < 48) (hr : row.val < 24 ∧ row'.val < 24)
    (o : ℕ) (ho : o = i * (i - 1) / 2) (inb) (P : FVec Ideal (⟨2, ![i, 128]⟩ : Shape) .f32)
    (hP : P = cut 32 i hi.1 (rot32 p (rd arg11 X row) (rd arg11 X row'))) (x : (⟨2, ![i, 128]⟩ : Shape).Idx) :
    P x = S13 X1 X2 X3 ((Rect.unit (s := S1128x128) ![o, 0] ![i, 128] inb).emb x) :=
  tri_rot h11 32 _ (by omega) i p row row' (rot32_val p _ _) hA hB hi hr o ho inb P hP x
end

section
variable (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole)
variable (c : Dev nD) {f1 : BufTy.Contents (Elt Ideal) arg1.view.ty} {f2 : BufTy.Contents (Elt Ideal) arg2.view.ty} {f3 : BufTy.Contents (Elt Ideal) arg3.view.ty}
  {f10 : BufTy.Contents (Elt Ideal) arg10.view.ty} {f11 : BufTy.Contents (Elt Ideal) arg11.view.ty}

variable {f12 : BufTy.Contents (Elt Ideal) arg12.view.ty}

/-- Arguments 11 and 12 after the Gram products. -/
def X11 (f1 : BufTy.Contents (Elt Ideal) arg1.view.ty) (f2 : BufTy.Contents (Elt Ideal) arg2.view.ty) (f3 : BufTy.Contents (Elt Ideal) arg3.view.ty)
    (f10 : BufTy.Contents (Elt Ideal) arg10.view.ty) (f11 : BufTy.Contents (Elt Ideal) arg11.view.ty) : BufTy.Contents (Elt Ideal) arg11.view.ty :=
  arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (runK.sl.r_60 arg1 arg2 arg3 arg6 arg7 arg8 arg9 f1 f2 f3) (runK.sl.r_61 arg1 arg2 arg3 arg6 arg7 arg8 arg9 f1 f2 f3) (runK.sl.r_62 arg1 arg2 arg3 arg6 arg7 arg8 arg9 f1 f2 f3) (runK.sl.r_63 arg1 arg2 arg3 arg6 arg7 arg8 arg9 f1 f2 f3)
    (X10 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10) (Scf.trips k0_t2_loop.lb k0_t2_loop.ub k0_t2_loop.st)).1
def X12 (f1 : BufTy.Contents (Elt Ideal) arg1.view.ty) (f2 : BufTy.Contents (Elt Ideal) arg2.view.ty) (f3 : BufTy.Contents (Elt Ideal) arg3.view.ty)
    (f10 : BufTy.Contents (Elt Ideal) arg10.view.ty) (f12 : BufTy.Contents (Elt Ideal) arg12.view.ty) : BufTy.Contents (Elt Ideal) arg12.view.ty :=
  arg12.view.writes (Elt Ideal) f12 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (runK.sl.r_60 arg1 arg2 arg3 arg6 arg7 arg8 arg9 f1 f2 f3) (runK.sl.r_61 arg1 arg2 arg3 arg6 arg7 arg8 arg9 f1 f2 f3) (runK.sl.r_62 arg1 arg2 arg3 arg6 arg7 arg8 arg9 f1 f2 f3) (runK.sl.r_63 arg1 arg2 arg3 arg6 arg7 arg8 arg9 f1 f2 f3)
    (X10 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10) (Scf.trips k0_t2_loop.lb k0_t2_loop.ub k0_t2_loop.st)).2

theorem X11_read (y : S1792x2x128.Idx) (hs : (y 0).val % 28 < 24) (hl : (y 2).val < 96) :
    arg11.view.read (Elt Ideal) (X11 i arg1 harg1 arg2 harg2 arg3 harg3 arg4 harg4 arg5 harg5 arg6 harg6 arg7 harg7 arg8 harg8 arg9 harg9 arg10 harg10 arg11 harg11 arg12 harg12 arg13 harg13 arg14 harg14 c f1 f2 f3 f10 f11) y
      = S11 (arg1.view.read (Elt Ideal) f1) (arg2.view.read (Elt Ideal) f2) (arg3.view.read (Elt Ideal) f3) y := by
  have ht := trips2
  have y0 : (y 0).val < 1792 := (y 0).isLt
  exact View.read_writes_apply_of_pieces _ _ _ _ (fun p hp => (gram_pieces i arg1 harg1 arg2 harg2 arg3 harg3 arg4 harg4 arg5 harg5 arg6 harg6 arg7 harg7 arg8 harg8 arg9 harg9 arg10 harg10 arg11 harg11 arg12 harg12 arg13 harg13 arg14 harg14 c _ _ _ _ (X10_read c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10) _ le_rfl).1.mem p hp) _
    (slots_cover i arg1 harg1 arg2 harg2 arg3 harg3 arg4 harg4 arg5 harg5 arg6 harg6 arg7 harg7 arg8 harg8 arg9 harg9 arg10 harg10 arg11 harg11 arg12 harg12 arg13 harg13 arg14 harg14 c _ _ _ _ y hs hl k0_t2_loop.trips le_rfl (by omega))

theorem X12_read (y : S128x128.Idx) (hl : (y 1).val < 96) :
    arg12.view.read (Elt Ideal) (X12 i arg1 harg1 arg2 harg2 arg3 harg3 arg4 harg4 arg5 harg5 arg6 harg6 arg7 harg7 arg8 harg8 arg9 harg9 arg10 harg10 arg11 harg11 arg12 harg12 arg13 harg13 arg14 harg14 c f1 f2 f3 f10 f12) y
      = S12 (arg1.view.read (Elt Ideal) f1) (arg2.view.read (Elt Ideal) f2) (arg3.view.read (Elt Ideal) f3) y := by
  have ht := trips2
  exact View.read_writes_apply_of_pieces _ _ _ _ (fun p hp => (gram_pieces i arg1 harg1 arg2 harg2 arg3 harg3 arg4 harg4 arg5 harg5 arg6 harg6 arg7 harg7 arg8 harg8 arg9 harg9 arg10 harg10 arg11 harg11 arg12 harg12 arg13 harg13 arg14 harg14 c _ _ _ _ (X10_read c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10) _ le_rfl).2.mem p hp) _
    (rows_cover i arg1 harg1 arg2 harg2 arg3 harg3 arg4 harg4 arg5 harg5 arg6 harg6 arg7 harg7 arg8 harg8 arg9 harg9 arg10 harg10 arg11 harg11 arg12 harg12 arg13 harg13 arg14 harg14 c _ _ _ _ y hl k0_t2_loop.trips le_rfl (by omega))

end

end Cert.KernelIdeal.Hand

end
-- ==== Proof.KernelIdeal.Pieces.lean ====
/-
  The pieces the triangle is stored in.
-/
module

public import proofs.«01_k».proof.Proof.KernelIdeal.Triangle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section
variable (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole)
variable (c : Dev nD) {f1 : BufTy.Contents (Elt Ideal) arg1.view.ty} {f2 : BufTy.Contents (Elt Ideal) arg2.view.ty} {f3 : BufTy.Contents (Elt Ideal) arg3.view.ty}
  {f10 : BufTy.Contents (Elt Ideal) arg10.view.ty} {f11 : BufTy.Contents (Elt Ideal) arg11.view.ty}

variable {f12 : BufTy.Contents (Elt Ideal) arg12.view.ty}

/-- The rows of the triangle that belong to feature `i`. -/
theorem tri_inb (i : Fin 48) : ∀ a, (![i.val * (i.val - 1) / 2, 0] : Fin 2 → ℕ) a + (![i.val, 128] : Fin 2 → ℕ) a ≤ S1128x128.size a := by
  intro a; fin_cases a
  · revert i; decide +kernel
  · exact le_rfl

def triRect (i : Fin 48) : Rect S1128x128 := Rect.unit ![i.val * (i.val - 1) / 2, 0] ![i.val, 128] (tri_inb i)

/-- The order in which the features' rows are stored, the last first. -/
def triOrder : List (Fin 48) := [27, 19, 31, 23, 26, 18, 30, 22, 25, 17, 29, 21, 24, 16, 28, 20, 15, 7, 47, 39, 14, 6, 46, 38, 13, 5, 45, 37, 12, 4, 44, 36, 11, 3, 43, 35, 10, 2, 42, 34, 9, 1, 41, 33, 8, 40, 32]

theorem tri_row : ∀ n : Fin 1128, ∃ i ∈ triOrder, i.val * (i.val - 1) / 2 ≤ n.val ∧ n.val < i.val * (i.val - 1) / 2 + i.val := by decide +kernel

set_option maxHeartbeats 4000000 in
theorem tri_rects : (runK.sl.H13_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f11).map (·.1) = triOrder.map triRect := by
  unfold runK.sl.H13_47; rfl

theorem tri_cover (y : S1128x128.Idx) : ∃ p ∈ runK.sl.H13_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f11, y ∈ p.1.set := by
  have y1 : (y 1).val < 128 := (y 1).isLt
  obtain ⟨k, hk, h1, h2⟩ := tri_row (y 0)
  have hm : triRect k ∈ (runK.sl.H13_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f11).map (·.1) := by
    rw [tri_rects]; exact List.mem_map_of_mem hk
  obtain ⟨p, hp, e⟩ := List.mem_map.mp hm
  refine ⟨p, hp, e ▸ (Rect.mem_set_unit (inb := tri_inb k)).mpr fun a => ?_⟩
  fin_cases a
  · exact ⟨h1, h2⟩
  · show 0 ≤ (y 1).val ∧ (y 1).val < 0 + 128; omega

set_option maxHeartbeats 4000000 in
theorem tri_pieces : View.PiecesOf (S13 (arg1.view.read (Elt Ideal) f1) (arg2.view.read (Elt Ideal) f2) (arg3.view.read (Elt Ideal) f3))
    (runK.sl.H13_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f11) := by
  have h11 := X11_read i arg1 harg1 arg2 harg2 arg3 harg3 arg4 harg4 arg5 harg5 arg6 harg6 arg7 harg7 arg8 harg8 arg9 harg9 arg10 harg10 arg11 harg11 arg12 harg12 arg13 harg13 arg14 harg14 c (f1 := f1) (f2 := f2) (f3 := f3)
    (f10 := if hc : runK.sl.v2 i = 1#1 then arg10.view.writes (Elt Ideal) f10 [⟨Rect.unit ![1, 0, 0, 0] S1x3584x2x128.size inb_S2x3584x2x128_S1x3584x2x128_1_0_0_0, runK.sl.k0_w1 (F := Ideal)⟩] else f10)
    (f11 := if hc : runK.sl.v2 i = 1#1 then arg11.view.writes (Elt Ideal) f11 [⟨Rect.unit ![0, 0, 0] S1792x2x128.size inb_S1792x2x128_S1792x2x128_0_0_0, runK.sl.k0_w2 (F := Ideal)⟩] else f11)
  unfold runK.sl.H13_47
  exact ⟨tri_rot32 h11 27 1 23 19 rfl rfl (by decide) (by decide) _ rfl (tri_inb 27) _ rfl,
    tri_rot32 h11 19 0 23 19 rfl rfl (by decide) (by decide) _ rfl (tri_inb 19) _ rfl,
    tri_straight h11 31 1 23 19 rfl rfl (by decide) (by decide) _ rfl (tri_inb 31) _ rfl,
    tri_straight h11 23 0 23 19 rfl rfl (by decide) (by decide) _ rfl (tri_inb 23) _ rfl,
    tri_rot32 h11 26 1 22 18 rfl rfl (by decide) (by decide) _ rfl (tri_inb 26) _ rfl,
    tri_rot32 h11 18 0 22 18 rfl rfl (by decide) (by decide) _ rfl (tri_inb 18) _ rfl,
    tri_straight h11 30 1 22 18 rfl rfl (by decide) (by decide) _ rfl (tri_inb 30) _ rfl,
    tri_straight h11 22 0 22 18 rfl rfl (by decide) (by decide) _ rfl (tri_inb 22) _ rfl,
    tri_rot32 h11 25 1 21 17 rfl rfl (by decide) (by decide) _ rfl (tri_inb 25) _ rfl,
    tri_rot32 h11 17 0 21 17 rfl rfl (by decide) (by decide) _ rfl (tri_inb 17) _ rfl,
    tri_straight h11 29 1 21 17 rfl rfl (by decide) (by decide) _ rfl (tri_inb 29) _ rfl,
    tri_straight h11 21 0 21 17 rfl rfl (by decide) (by decide) _ rfl (tri_inb 21) _ rfl,
    tri_rot32 h11 24 1 20 16 rfl rfl (by decide) (by decide) _ rfl (tri_inb 24) _ rfl,
    tri_rot32 h11 16 0 20 16 rfl rfl (by decide) (by decide) _ rfl (tri_inb 16) _ rfl,
    tri_straight h11 28 1 20 16 rfl rfl (by decide) (by decide) _ rfl (tri_inb 28) _ rfl,
    tri_straight h11 20 0 20 16 rfl rfl (by decide) (by decide) _ rfl (tri_inb 20) _ rfl,
    tri_rot16 h11 15 1 7 15 rfl rfl (by decide) (by decide) _ rfl (tri_inb 15) _ rfl,
    tri_rot16 h11 7 0 7 15 rfl rfl (by decide) (by decide) _ rfl (tri_inb 7) _ rfl,
    tri_straight h11 47 1 7 15 rfl rfl (by decide) (by decide) _ rfl (tri_inb 47) _ rfl,
    tri_straight h11 39 0 7 15 rfl rfl (by decide) (by decide) _ rfl (tri_inb 39) _ rfl,
    tri_rot16 h11 14 1 6 14 rfl rfl (by decide) (by decide) _ rfl (tri_inb 14) _ rfl,
    tri_rot16 h11 6 0 6 14 rfl rfl (by decide) (by decide) _ rfl (tri_inb 6) _ rfl,
    tri_straight h11 46 1 6 14 rfl rfl (by decide) (by decide) _ rfl (tri_inb 46) _ rfl,
    tri_straight h11 38 0 6 14 rfl rfl (by decide) (by decide) _ rfl (tri_inb 38) _ rfl,
    tri_rot16 h11 13 1 5 13 rfl rfl (by decide) (by decide) _ rfl (tri_inb 13) _ rfl,
    tri_rot16 h11 5 0 5 13 rfl rfl (by decide) (by decide) _ rfl (tri_inb 5) _ rfl,
    tri_straight h11 45 1 5 13 rfl rfl (by decide) (by decide) _ rfl (tri_inb 45) _ rfl,
    tri_straight h11 37 0 5 13 rfl rfl (by decide) (by decide) _ rfl (tri_inb 37) _ rfl,
    tri_rot16 h11 12 1 4 12 rfl rfl (by decide) (by decide) _ rfl (tri_inb 12) _ rfl,
    tri_rot16 h11 4 0 4 12 rfl rfl (by decide) (by decide) _ rfl (tri_inb 4) _ rfl,
    tri_straight h11 44 1 4 12 rfl rfl (by decide) (by decide) _ rfl (tri_inb 44) _ rfl,
    tri_straight h11 36 0 4 12 rfl rfl (by decide) (by decide) _ rfl (tri_inb 36) _ rfl,
    tri_rot16 h11 11 1 3 11 rfl rfl (by decide) (by decide) _ rfl (tri_inb 11) _ rfl,
    tri_rot16 h11 3 0 3 11 rfl rfl (by decide) (by decide) _ rfl (tri_inb 3) _ rfl,
    tri_straight h11 43 1 3 11 rfl rfl (by decide) (by decide) _ rfl (tri_inb 43) _ rfl,
    tri_straight h11 35 0 3 11 rfl rfl (by decide) (by decide) _ rfl (tri_inb 35) _ rfl,
    tri_rot16 h11 10 1 2 10 rfl rfl (by decide) (by decide) _ rfl (tri_inb 10) _ rfl,
    tri_rot16 h11 2 0 2 10 rfl rfl (by decide) (by decide) _ rfl (tri_inb 2) _ rfl,
    tri_straight h11 42 1 2 10 rfl rfl (by decide) (by decide) _ rfl (tri_inb 42) _ rfl,
    tri_straight h11 34 0 2 10 rfl rfl (by decide) (by decide) _ rfl (tri_inb 34) _ rfl,
    tri_rot16 h11 9 1 1 9 rfl rfl (by decide) (by decide) _ rfl (tri_inb 9) _ rfl,
    tri_rot16 h11 1 0 1 9 rfl rfl (by decide) (by decide) _ rfl (tri_inb 1) _ rfl,
    tri_straight h11 41 1 1 9 rfl rfl (by decide) (by decide) _ rfl (tri_inb 41) _ rfl,
    tri_straight h11 33 0 1 9 rfl rfl (by decide) (by decide) _ rfl (tri_inb 33) _ rfl,
    tri_rot16 h11 8 1 0 8 rfl rfl (by decide) (by decide) _ rfl (tri_inb 8) _ rfl,
    tri_straight h11 40 1 0 8 rfl rfl (by decide) (by decide) _ rfl (tri_inb 40) _ rfl,
    tri_straight h11 32 0 0 8 rfl rfl (by decide) (by decide) _ rfl (tri_inb 32) _ rfl,
    trivial⟩
end

end Cert.KernelIdeal.Hand

end
-- ==== Proof.KernelIdeal.Outs.lean ====
/-
  What the body leaves in the four results.
-/
module

public import proofs.«01_k».proof.Proof.KernelIdeal.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The first result of a block: the input rows above the triangle of dot products. -/
def S4 (X1 : Vec Ideal S47x192x128 .fp8e4m3) (X2 : Vec Ideal S6x47x128 .f32) (X3 : Vec Ideal S192x128 .bf16) : Vec Ideal S1320x128 .bf16 := fun y =>
  if h : (y 0).val < 192 then X3 (ix2 (⟨(y 0).val, h⟩ : Fin 192) (y 1))
  else dotv X1 X2 X3 (triI ((y 0).val - 192)) (triJ ((y 0).val - 192)) (y 1)

/-- The second result of a block: the dot products of feature 0 with the others. -/
def S5 (X1 : Vec Ideal S47x192x128 .fp8e4m3) (X2 : Vec Ideal S6x47x128 .f32) (X3 : Vec Ideal S192x128 .bf16) : Vec Ideal S47x128 .f32 := fun y => dotv X1 X2 X3 0 ((y 0).val + 1) (y 1)

theorem weave_val (u v : FVec Ideal S564x128 .bf16) (r : Fin 1128) (l : Fin 128) :
    k0_pay1 u v (ix2 r l) = if r.val % 2 = 0 then u (ix2 (⟨r.val / 2, by omega⟩ : Fin 564) l) else v (ix2 (⟨r.val / 2, by omega⟩ : Fin 564) l) := by
  pointwise [k0_pay1]

theorem copy_val (v : Vec Ideal S192x128 .bf16) (r : Fin 192) (l : Fin 128) : k0_pay378 v (ix2 r l) = v (ix2 r l) := by
  pointwise [k0_pay378]
  split_ifs with h <;> exact congrArg (fun q => v (ix2 q l)) (Fin.ext (by dsimp only; omega))

theorem first_val (T : Vec Ideal S128x128 .f32) (r : Fin 48) (l : Fin 128) :
    k0_pay377 T (ix2 r l) = T (ix2 l (⟨if l.val < 64 then r.val else 48 + r.val, by split <;> omega⟩ : Fin 128)) := by
  pointwise [k0_pay377]
  refine (select_half l _ _).trans ?_
  by_cases h : l.val < 64
  · rw [if_pos h]; congr 2; exact Fin.ext (if_pos h).symm
  · rw [if_neg h]; congr 2; exact Fin.ext (if_neg h).symm

section
variable (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole)
variable (c : Dev nD) {f1 : BufTy.Contents (Elt Ideal) arg1.view.ty} {f2 : BufTy.Contents (Elt Ideal) arg2.view.ty} {f3 : BufTy.Contents (Elt Ideal) arg3.view.ty} {f4 : BufTy.Contents (Elt Ideal) arg4.view.ty} {f5 : BufTy.Contents (Elt Ideal) arg5.view.ty} {f6 : BufTy.Contents (Elt Ideal) arg6.view.ty} {f7 : BufTy.Contents (Elt Ideal) arg7.view.ty} {f8 : BufTy.Contents (Elt Ideal) arg8.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {f14 : BufTy.Contents (Elt Ideal) arg14.view.ty}

theorem odd_rows (o : Fin 2) (inb) (j : Fin 564) (l : Fin 128) :
    arg13.view.readCov (Val := Elt Ideal) (runK.sl.H13_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f11) (⟨![o.val, 0], S564x128.size, ![2, 1], inb⟩ : LoadRect S1128x128) (ix2 j l)
      = dotv (arg1.view.read (Elt Ideal) f1) (arg2.view.read (Elt Ideal) f2) (arg3.view.read (Elt Ideal) f3) (triI (2 * j.val + o.val)) (triJ (2 * j.val + o.val)) l := by
  have e : ∀ y : S1128x128.Idx, (y 0).val = 2 * j.val + o.val → y 1 = l →
      arg13.view.read (Elt Ideal) (arg13.view.writes (Elt Ideal) arg13.view.junk (runK.sl.H13_47 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f11)) y
        = dotv (arg1.view.read (Elt Ideal) f1) (arg2.view.read (Elt Ideal) f2) (arg3.view.read (Elt Ideal) f3) (triI (2 * j.val + o.val)) (triJ (2 * j.val + o.val)) l := by
    intro y y0 y1
    rw [View.read_writes_apply_of_pieces _ _ _ _ (fun p hp => (tri_pieces i arg1 harg1 arg2 harg2 arg3 harg3 arg4 harg4 arg5 harg5 arg6 harg6 arg7 harg7 arg8 harg8 arg9 harg9 arg10 harg10 arg11 harg11 arg12 harg12 arg13 harg13 arg14 harg14 c).mem p hp) y (tri_cover i arg1 harg1 arg2 harg2 arg3 harg3 arg4 harg4 arg5 harg5 arg6 harg6 arg7 harg7 arg8 harg8 arg9 harg9 arg10 harg10 arg11 harg11 arg12 harg12 arg13 harg13 arg14 harg14 c y)]
    unfold S13
    rw [y0, y1]
  refine e (LoadRect.idx (⟨![o.val, 0], S564x128.size, ![2, 1], inb⟩ : LoadRect S1128x128) (ix2 j l)) ?_ ?_
  · exact (LoadRect.idx_apply _ _ _).trans (by show o.val + 2 * j.val = _; omega)
  · exact Fin.ext ((LoadRect.idx_apply _ _ _).trans (by show 0 + 1 * l.val = _; omega))

set_option maxHeartbeats 4000000 in
theorem out4 (y : S1320x128.Idx) : arg4.view.read (Elt Ideal) (runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.1 y = S4 (arg1.view.read (Elt Ideal) f1) (arg2.view.read (Elt Ideal) f2) (arg3.view.read (Elt Ideal) f3) y := by
  have e : (runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.1 = arg4.view.writes (Elt Ideal) f4
      [⟨Rect.unit ![192, 0] S1128x128.size inb_S1320x128_S1128x128_192_0, k0_pay1 (runK.sl.r_109 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f11) (runK.sl.r_110 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f11)⟩,
       ⟨Rect.unit ![0, 0] S192x128.size inb_S1320x128_S192x128_0_0,
        k0_pay378 (arg3.view.readAt (Elt Ideal) (Rect.unit ![0, 0] S192x128.size inb_S192x128_S192x128_0_0).toLoadRect f3)⟩] := by
    unfold runK; rfl
  rw [e]
  have y1 : (y 1).val < 128 := (y 1).isLt
  have y0 : (y 0).val < 1320 := (y 0).isLt
  refine View.read_writes_apply_of_pieces _ _ _ _ (fun p hp => ?_) y ?_
  · refine View.PiecesOf.mem (L := [_, _]) ⟨fun x => ?_, fun x => ?_, trivial⟩ p hp
    · obtain ⟨r, l, rfl⟩ : ∃ (r : Fin 1128) (l : Fin 128), x = ix2 r l := ⟨x 0, x 1, eq_ix2 x⟩
      have e0 : (((Rect.unit (s := S1320x128) ![192, 0] S1128x128.size inb_S1320x128_S1128x128_192_0).emb (ix2 r l) : S1320x128.Idx) 0).val = 192 + r.val := emb_unit_val _ _ _ _ _
      have e1 : ((Rect.unit (s := S1320x128) ![192, 0] S1128x128.size inb_S1320x128_S1128x128_192_0).emb (ix2 r l) : S1320x128.Idx) 1 = l := Fin.ext ((emb_unit_val _ _ _ _ _).trans (Nat.zero_add _))
      refine (weave_val _ _ r l).trans ?_
      unfold S4
      rw [dif_neg (by rw [e0]; omega), e0, e1, show 192 + r.val - 192 = r.val by omega]
      by_cases h : r.val % 2 = 0
      · rw [if_pos h]
        refine (odd_rows i arg1 harg1 arg2 harg2 arg3 harg3 arg4 harg4 arg5 harg5 arg6 harg6 arg7 harg7 arg8 harg8 arg9 harg9 arg10 harg10 arg11 harg11 arg12 harg12 arg13 harg13 arg14 harg14 c 0 inb_S1128x128_S564x128_0_0_s_2_1 _ l).trans ?_
        rw [show 2 * (r.val / 2) + (0 : Fin 2).val = r.val by show 2 * (r.val / 2) + 0 = _; omega]
      · rw [if_neg h]
        refine (odd_rows i arg1 harg1 arg2 harg2 arg3 harg3 arg4 harg4 arg5 harg5 arg6 harg6 arg7 harg7 arg8 harg8 arg9 harg9 arg10 harg10 arg11 harg11 arg12 harg12 arg13 harg13 arg14 harg14 c 1 inb_S1128x128_S564x128_1_0_s_2_1 _ l).trans ?_
        rw [show 2 * (r.val / 2) + (1 : Fin 2).val = r.val by show 2 * (r.val / 2) + 1 = _; omega]
    · obtain ⟨r, l, rfl⟩ : ∃ (r : Fin 192) (l : Fin 128), x = ix2 r l := ⟨x 0, x 1, eq_ix2 x⟩
      have e0 : (((Rect.unit (s := S1320x128) ![0, 0] S192x128.size inb_S1320x128_S192x128_0_0).emb (ix2 r l) : S1320x128.Idx) 0).val = r.val := (emb_unit_val _ _ _ _ _).trans (Nat.zero_add _)
      have e1 : ((Rect.unit (s := S1320x128) ![0, 0] S192x128.size inb_S1320x128_S192x128_0_0).emb (ix2 r l) : S1320x128.Idx) 1 = l := Fin.ext ((emb_unit_val _ _ _ _ _).trans (Nat.zero_add _))
      refine (copy_val _ r l).trans ?_
      unfold S4
      rw [dif_pos (by rw [e0]; exact r.isLt)]
      refine congrArg (arg3.view.read (Elt Ideal) f3) ?_
      refine (eq_ix2 _).trans (congrArg₂ ix2 (Fin.ext ?_) (Fin.ext ?_))
      · exact ((LoadRect.idx_apply _ _ _).trans (by show 0 + 1 * r.val = _; omega)).trans e0.symm
      · exact ((LoadRect.idx_apply _ _ _).trans (by show 0 + 1 * l.val = _; omega)).trans (congrArg Fin.val e1.symm)
  · by_cases h : (y 0).val < 192
    · refine ⟨_, List.mem_cons_of_mem _ List.mem_cons_self, (Rect.mem_set_unit (inb := inb_S1320x128_S192x128_0_0)).mpr fun a => ?_⟩
      fin_cases a
      · show 0 ≤ (y 0).val ∧ (y 0).val < 0 + 192; omega
      · show 0 ≤ (y 1).val ∧ (y 1).val < 0 + 128; omega
    · refine ⟨_, List.mem_cons_self, (Rect.mem_set_unit (inb := inb_S1320x128_S1128x128_192_0)).mpr fun a => ?_⟩
      fin_cases a
      · show 192 ≤ (y 0).val ∧ (y 0).val < 192 + 1128; omega
      · show 0 ≤ (y 1).val ∧ (y 1).val < 0 + 128; omega

theorem first_rows (a b : Fin 128) (hb : b.val < 96) :
    runK.sl.v1249 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f12 (ix2 a b) = S12 (arg1.view.read (Elt Ideal) f1) (arg2.view.read (Elt Ideal) f2) (arg3.view.read (Elt Ideal) f3) (ix2 a b) := by
  have e : ∀ y : S128x128.Idx, y = ix2 a b → arg12.view.read (Elt Ideal) (X12 i arg1 harg1 arg2 harg2 arg3 harg3 arg4 harg4 arg5 harg5 arg6 harg6 arg7 harg7 arg8 harg8 arg9 harg9 arg10 harg10 arg11 harg11 arg12 harg12 arg13 harg13 arg14 harg14 c f1 f2 f3
      (if hc : runK.sl.v2 i = 1#1 then arg10.view.writes (Elt Ideal) f10 [⟨Rect.unit ![1, 0, 0, 0] S1x3584x2x128.size inb_S2x3584x2x128_S1x3584x2x128_1_0_0_0, runK.sl.k0_w1 (F := Ideal)⟩] else f10)
      (if hc : runK.sl.v2 i = 1#1 then arg12.view.writes (Elt Ideal) f12 [⟨Rect.unit ![0, 0] S128x128.size inb_S128x128_S128x128_0_0, k0_pay81 (F := Ideal)⟩] else f12)) y = S12 (arg1.view.read (Elt Ideal) f1) (arg2.view.read (Elt Ideal) f2) (arg3.view.read (Elt Ideal) f3) (ix2 a b) := by
    rintro y rfl
    exact X12_read i arg1 harg1 arg2 harg2 arg3 harg3 arg4 harg4 arg5 harg5 arg6 harg6 arg7 harg7 arg8 harg8 arg9 harg9 arg10 harg10 arg11 harg11 arg12 harg12 arg13 harg13 arg14 harg14 c (ix2 a b) hb
  refine e (LoadRect.idx (Rect.unit (s := S128x128) ![0, 0] S128x128.size inb_S128x128_S128x128_0_0).toLoadRect (ix2 a b)) ?_
  refine (eq_ix2 _).trans (congrArg₂ ix2 (Fin.ext ?_) (Fin.ext ?_))
  · exact (LoadRect.idx_apply _ _ _).trans (by show 0 + 1 * a.val = _; omega)
  · exact (LoadRect.idx_apply _ _ _).trans (by show 0 + 1 * b.val = _; omega)

theorem out5 (y : S47x128.Idx) : arg5.view.read (Elt Ideal) (runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.1 y = S5 (arg1.view.read (Elt Ideal) f1) (arg2.view.read (Elt Ideal) f2) (arg3.view.read (Elt Ideal) f3) y := by
  have e : (runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.1 = arg5.view.writes (Elt Ideal) f5
      [⟨Rect.unit ![0, 0] S47x128.size inb_S47x128_S47x128_0_0, runK.sl.v1257 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f12⟩] := by
    unfold runK; rfl
  rw [e]
  have y1 : (y 1).val < 128 := (y 1).isLt
  have y0 : (y 0).val < 47 := (y 0).isLt
  refine View.read_writes_apply_of_pieces _ _ _ _ (fun p hp => ?_) y ?_
  · refine View.PiecesOf.mem (L := [_]) ⟨fun x => ?_, trivial⟩ p hp
    obtain ⟨r, l, rfl⟩ : ∃ (r : Fin 47) (l : Fin 128), x = ix2 r l := ⟨x 0, x 1, eq_ix2 x⟩
    have e0 : (((Rect.unit (s := S47x128) ![0, 0] S47x128.size inb_S47x128_S47x128_0_0).emb (ix2 r l) : S47x128.Idx) 0).val = r.val := (emb_unit_val _ _ _ _ _).trans (Nat.zero_add _)
    have e1 : ((Rect.unit (s := S47x128) ![0, 0] S47x128.size inb_S47x128_S47x128_0_0).emb (ix2 r l) : S47x128.Idx) 1 = l := Fin.ext ((emb_unit_val _ _ _ _ _).trans (Nat.zero_add _))
    unfold S5
    rw [e0, e1]
    have h14 : ∀ z : S48x128.Idx, (z 0).val = r.val + 1 → z 1 = l →
        arg14.view.read (Elt Ideal) (arg14.view.writes (Elt Ideal) arg14.view.junk (runK.sl.H14_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f12)) z
          = dotv (arg1.view.read (Elt Ideal) f1) (arg2.view.read (Elt Ideal) f2) (arg3.view.read (Elt Ideal) f3) 0 (r.val + 1) l := by
      intro z z0 z1
      unfold runK.sl.H14_1
      refine (View.read_writes_apply_of_pieces (G := fun w : S48x128.Idx => k0_pay377 (runK.sl.v1249 (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f10 f12) w) _ _ _ (fun p hp => ?_) z ?_).trans ?_
      · refine View.PiecesOf.mem (L := [_]) ⟨fun x => ?_, trivial⟩ p hp
        obtain ⟨q, l', rfl⟩ : ∃ (q : Fin 48) (l' : Fin 128), x = ix2 q l' := ⟨x 0, x 1, eq_ix2 x⟩
        have e' : ((Rect.unit (s := S48x128) ![0, 0] S48x128.size inb_S48x128_S48x128_0_0).emb (ix2 q l') : S48x128.Idx) = ix2 q l' :=
          (eq_ix2 _).trans (congrArg₂ ix2 (Fin.ext ((emb_unit_val _ _ _ _ _).trans (Nat.zero_add _))) (Fin.ext ((emb_unit_val _ _ _ _ _).trans (Nat.zero_add _))))
        exact congrArg (k0_pay377 _) e'.symm
      · refine ⟨_, List.mem_cons_self, (Rect.mem_set_unit (inb := inb_S48x128_S48x128_0_0)).mpr fun a => ?_⟩
        fin_cases a
        · exact ⟨Nat.zero_le _, (Nat.zero_add 48).symm ▸ (z 0).isLt⟩
        · exact ⟨Nat.zero_le _, (Nat.zero_add 128).symm ▸ (z 1).isLt⟩
      · obtain ⟨q, l', rfl⟩ : ∃ (q : Fin 48) (l' : Fin 128), z = ix2 q l' := ⟨z 0, z 1, eq_ix2 z⟩
        obtain rfl : l' = l := z1
        have hq : q.val = r.val + 1 := z0
        rw [first_val, first_rows i arg1 harg1 arg2 harg2 arg3 harg3 arg4 harg4 arg5 harg5 arg6 harg6 arg7 harg7 arg8 harg8 arg9 harg9 arg10 harg10 arg11 harg11 arg12 harg12 arg13 harg13 arg14 harg14 c _ _ (by dsimp only; split <;> omega)]
        unfold S12
        by_cases h : l'.val < 64
        · refine Eq.trans ?_ (gramS_low l'.val 0 (r.val + 1) h (by omega) (by omega) l' rfl)
          show gramS _ _ _ (l'.val % 64) (48 * (l'.val / 64)) (if l'.val < 64 then q.val else 48 + q.val) = _
          rw [if_pos h, hq, show l'.val % 64 = l'.val by omega, show 48 * (l'.val / 64) = 0 by omega]
        · refine Eq.trans ?_ (gramS_high (l'.val - 64) 0 (r.val + 1) (by omega) (by omega) (by omega) l' (by omega))
          show gramS _ _ _ (l'.val % 64) (48 * (l'.val / 64)) (if l'.val < 64 then q.val else 48 + q.val) = _
          rw [if_neg h, hq, show l'.val % 64 = l'.val - 64 by omega, show 48 * (l'.val / 64) = 48 + 0 by omega]
    refine h14 (LoadRect.idx (Rect.unit (s := S48x128) ![1, 0] S47x128.size inb_S48x128_S47x128_1_0).toLoadRect (ix2 r l)) ?_ ?_
    · exact (LoadRect.idx_apply _ _ _).trans (by show 1 + 1 * r.val = _; omega)
    · exact Fin.ext ((LoadRect.idx_apply _ _ _).trans (by show 0 + 1 * l.val = _; omega))
  · refine ⟨_, List.mem_cons_self, (Rect.mem_set_unit (inb := inb_S47x128_S47x128_0_0)).mpr fun a => ?_⟩
    fin_cases a
    · show 0 ≤ (y 0).val ∧ (y 0).val < 0 + 47; omega
    · show 0 ≤ (y 1).val ∧ (y 1).val < 0 + 128; omega

theorem out6 (y : S192x128.Idx) : arg6.view.read (Elt Ideal) (runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.2.1 y = codeS (arg3.view.read (Elt Ideal) f3) y := by
  have e : (runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.2.1 = arg6.view.writes (Elt Ideal) arg6.view.junk (runK.sl.H6_6 arg3 f3) := by
    unfold runK; rfl
  rw [e]
  exact (View.read_writes_apply_eq_canon _ _ _ _ (cover_code arg3 f3 y)).trans (canon_code arg3 f3 y)

theorem out7 (y : S6x128.Idx) : arg7.view.read (Elt Ideal) (runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.2.2 y = scaleS (arg3.view.read (Elt Ideal) f3) y := by
  have e : (runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.2.2 = arg7.view.writes (Elt Ideal) arg7.view.junk (runK.sl.H7_6 arg3 f3) := by
    unfold runK; rfl
  rw [e]
  exact (View.read_writes_apply_eq_canon _ _ _ _ (cover_scale arg3 f3 y)).trans (canon_scale arg3 f3 y)
end

end Cert.KernelIdeal.Hand

end
-- ==== Proof.KernelIdeal.Value.lean ====
/-
  The run of the kernel, with the values of its results.
-/
module

public import proofs.«01_k».proof.Proof.KernelIdeal.Outs
public import proofs.«01_k».proof.Proof.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 40000000 in
/-- The kernel body on whole memrefs, with the values it leaves in the four results. -/
theorem value_kernel (c : Dev nD) (E : Set ℕ) (i : grid0.Coords) (arg1 : Memref sig .tc .vmem S47x192x128 .fp8e4m3) (harg1 : arg1.IsWhole) (arg2 : Memref sig .tc .vmem S6x47x128 .f32) (harg2 : arg2.IsWhole) (arg3 : Memref sig .tc .vmem S192x128 .bf16) (harg3 : arg3.IsWhole) (arg4 : Memref sig .tc .vmem S1320x128 .bf16) (harg4 : arg4.IsWhole) (arg5 : Memref sig .tc .vmem S47x128 .f32) (harg5 : arg5.IsWhole) (arg6 : Memref sig .tc .vmem S192x128 .fp8e4m3) (harg6 : arg6.IsWhole) (arg7 : Memref sig .tc .vmem S6x128 .f32) (harg7 : arg7.IsWhole) (arg8 : Memref sig .tc .vmem S288x128 .f32) (harg8 : arg8.IsWhole) (arg9 : Memref sig .tc .vmem S144x2x128 .bf16) (harg9 : arg9.IsWhole) (arg10 : Memref sig .tc .vmem S2x3584x2x128 .bf16) (harg10 : arg10.IsWhole) (arg11 : Memref sig .tc .vmem S1792x2x128 .bf16) (harg11 : arg11.IsWhole) (arg12 : Memref sig .tc .vmem S128x128 .f32) (harg12 : arg12.IsWhole) (arg13 : Memref sig .tc .vmem S1128x128 .f32) (harg13 : arg13.IsWhole) (arg14 : Memref sig .tc .vmem S48x128 .f32) (harg14 : arg14.IsWhole) (x1 : Vec Ideal S47x192x128 .fp8e4m3) (x2 : Vec Ideal S6x47x128 .f32) (x3 : Vec Ideal S192x128 .bf16) (K : PUnit → sProp 𝕄) :
    iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare (S4 x1 x2 x3) ∗ owns (c : Thread nD τ) arg5 fullShare (S5 x1 x2 x3) ∗ owns (c : Thread nD τ) arg6 fullShare (codeS x3) ∗ owns (c : Thread nD τ) arg7 fullShare (scaleS x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp Idealize.ShloMosaic.frame (wpE (defs₀ (F := Ideal)) Variants.none c none) E (cc0_dot_interaction i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf1 hf2 hf3
  iapply ((runK (F := Ideal) c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, ⟨%g8, H8⟩, ⟨%g9, H9⟩, ⟨%g10, H10⟩, ⟨%g11, H11⟩, ⟨%g12, H12⟩, ⟨%g13, H13⟩, ⟨%g14, H14⟩⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro; exact funext fun y => out4 i arg1 harg1 arg2 harg2 arg3 harg3 arg4 harg4 arg5 harg5 arg6 harg6 arg7 harg7 arg8 harg8 arg9 harg9 arg10 harg10 arg11 harg11 arg12 harg12 arg13 harg13 arg14 harg14 c y
  isplitl [H5]
  · iexists _; isplitr
    swap; · iexact H5
    ipureintro; exact funext fun y => out5 i arg1 harg1 arg2 harg2 arg3 harg3 arg4 harg4 arg5 harg5 arg6 harg6 arg7 harg7 arg8 harg8 arg9 harg9 arg10 harg10 arg11 harg11 arg12 harg12 arg13 harg13 arg14 harg14 c y
  isplitl [H6]
  · iexists _; isplitr
    swap; · iexact H6
    ipureintro; exact funext fun y => out6 i arg1 harg1 arg2 harg2 arg3 harg3 arg4 harg4 arg5 harg5 arg6 harg6 arg7 harg7 arg8 harg8 arg9 harg9 arg10 harg10 arg11 harg11 arg12 harg12 arg13 harg13 arg14 harg14 c y
  isplitl [H7]
  · iexists _; isplitr
    swap; · iexact H7
    ipureintro; exact funext fun y => out7 i arg1 harg1 arg2 harg2 arg3 harg3 arg4 harg4 arg5 harg5 arg6 harg6 arg7 harg7 arg8 harg8 arg9 harg9 arg10 harg10 arg11 harg11 arg12 harg12 arg13 harg13 arg14 harg14 c y
  isplitl [H8]
  · iexists _; iexists g8; isplitr
    swap; · iexact H8
    ipureintro; rfl
  isplitl [H9]
  · iexists _; iexists g9; isplitr
    swap; · iexact H9
    ipureintro; rfl
  isplitl [H10]
  · iexists _; iexists g10; isplitr
    swap; · iexact H10
    ipureintro; rfl
  isplitl [H11]
  · iexists _; iexists g11; isplitr
    swap; · iexact H11
    ipureintro; rfl
  isplitl [H12]
  · iexists _; iexists g12; isplitr
    swap; · iexact H12
    ipureintro; rfl
  isplitl [H13]
  · iexists _; iexists g13; isplitr
    swap; · iexact H13
    ipureintro; rfl
  iexists _; iexists g14; isplitr
  swap; · iexact H14
  ipureintro; rfl

/-- The proof data: the inputs at their blocks, the four results at the values the body leaves, the scratch at any contents. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => S4 (iblk m c 0 t) (iblk m c 1 t) (iblk m c 2 t)
    | ⟨4, _⟩ => S5 (iblk m c 0 t) (iblk m c 1 t) (iblk m c 2 t)
    | ⟨5, _⟩ => codeS (iblk m c 2 t)
    | ⟨6, _⟩ => scaleS (iblk m c 2 t)
  Φ _ := Pipeline.ΦA spec0 c
  q _ := fullShare
  owed _ := 0

theorem vA_eq (c : Dev nD) (w : Fin cfg0.W) : (vdats m 0 c).A w = V m c (Pipeline.arrRef spec0 w) := by
  dsimp only [vdats]
theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = S4 (iblk m c 0 t) (iblk m c 1 t) (iblk m c 2 t) := by dsimp only [vdats]
theorem vafter_4 (c : Dev nD) (t : Fin cfg0.N) : (vdats m 0 c).after 4 t = S5 (iblk m c 0 t) (iblk m c 1 t) (iblk m c 2 t) := by dsimp only [vdats]
theorem vafter_5 (c : Dev nD) (t : Fin cfg0.N) : (vdats m 0 c).after 5 t = codeS (iblk m c 2 t) := by dsimp only [vdats]
theorem vafter_6 (c : Dev nD) (t : Fin cfg0.N) : (vdats m 0 c).after 6 t = scaleS (iblk m c 2 t) := by dsimp only [vdats]
theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d

set_option maxHeartbeats 4000000 in
/-- The body at any point of the grid. -/
theorem value_body (c : Dev nD) (t : Fin cfg0.N) :
    iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))
    ⊢ wp Idealize.ShloMosaic.frame (wpE (defs₀ (F := Ideal)) Variants.none c none) Set.univ (bodyAt0 t) (fun _ =>
      iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t))) := by
  unfold bodyAt0
  simp only [vbefore_0, vbefore_1, vbefore_2]
  rw [show (vdats m 0 c).Φ t.succ = Pipeline.ΦA spec0 c from rfl, show (vdats m 0 c).Φ t.castSucc = Pipeline.ΦA spec0 c from rfl,
    show (vdats m 0 c).owesAt () t.succ = (vdats m 0 c).owesAt () t.castSucc from rfl,
    vafter_0, vafter_1, vafter_2, vafter_3, vafter_4, vafter_5, vafter_6, PhiA_eq]
  iintro ⟨⟨⟨S8, S9, S10, S11, S12, S13, S14⟩, Hr⟩, Ho, ⟨%d0, H0⟩, ⟨%d1, H1⟩, ⟨%d2, H2⟩, ⟨%d3, H3⟩, ⟨%d4, H4⟩, ⟨%d5, H5⟩, ⟨%d6, H6⟩⟩
  iapply (value_kernel c Set.univ _ _ _ _ _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [S8]; · iexact S8
  isplitl [S9]; · iexact S9
  isplitl [S10]; · iexact S10
  isplitl [S11]; · iexact S11
  isplitl [S12]; · iexact S12
  isplitl [S13]; · iexact S13
  isplitl [S14]; · iexact S14
  iintro ⟨H0, H1, H2, H3, H4, H5, H6, S8, S9, S10, S11, S12, S13, S14⟩
  isplitl [S8 S9 S10 S11 S12 S13 S14 Hr]
  · isplitr [Hr]
    · isplitl [S8]; · iexact S8
      isplitl [S9]; · iexact S9
      isplitl [S10]; · iexact S10
      isplitl [S11]; · iexact S11
      isplitl [S12]; · iexact S12
      isplitl [S13]; · iexact S13
      iexact S14
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation. -/
theorem value_obligation (c : Dev nD) : BodyObligation (vdats m 0 c) (defs₀ (F := Ideal)) Variants.none () Set.univ := fun t => by
  rw [bigSep_W0, bigSep_W0, defs₀_row]
  exact triple_restated (value_body m c t) rfl .rfl fun _ => .rfl

set_option backward.isDefEq.respectTransparency.types false in
set_option maxHeartbeats 800000 in
/-- Every execution ends with the four results at the values of their blocks. -/
theorem value_main : θ_run defs (onTc (τ := τ) (main (F := Ideal))) (s₀ m ρ)
    (Pipeline.FramePost cfgs (vdats m) 0 (Pipeline.afterTail₀ cfgs (vdats m) 0 (V0 m) [hostOps1])) :=
  Pipeline.θ_run_frame_around cfgs (vdats m) (0 : Fin 1) launch0 defs₀ Variants.none m ρ main
    (hbody := fun c => (value_obligation m c).loose) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hΦ := fun _ _ => rfl)

end Cert.KernelIdeal.Hand

end
-- ==== Proof.KernelIdeal.Results.lean ====
/-
  The four results of the kernel as functions of its arguments.
-/
module

public import proofs.«01_k».proof.Proof.KernelIdeal.Value
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.SL.Sem

variable (m : (ℓ : Loc nD τ sig) → Buf (Elt Ideal) ℓ) (ρ : Dev nD → PrngReg)

section spec
variable (A0 : Vec Ideal S8192x47x192 .fp8e4m3) (A1 : Vec Ideal S8192x47x6 .f32) (A2 : Vec Ideal S8192x192 .bf16)

/-- The largest magnitude of group `k` of example `b`. -/
def gmax (k : Fin 6) (b : Fin 8192) : EReal := groupMax fun r : Fin 32 => A2 (ix2 b (⟨32 * k.val + r.val, by omega⟩ : Fin 192))

/-- The scale of group `k` of feature `f` of example `b`: feature 0 is the one quantised here. -/
def gscl (f : ℕ) (k : Fin 6) (b : Fin 8192) : EReal :=
  if f = 0 then scaleK (gmax A2 k b) else if h : f - 1 < 47 then A1 (ix3 b (⟨f - 1, h⟩ : Fin 47) k) else 0

/-- The code at depth `d` of feature `f` of example `b`. -/
def gcod (f : ℕ) (d : Fin 192) (b : Fin 8192) : EReal :=
  if f = 0 then codeK (gmax A2 ⟨d.val / 32, by omega⟩ b) (A2 (ix2 b d)) else if h : f - 1 < 47 then A0 (ix3 b (⟨f - 1, h⟩ : Fin 47) d) else 0

/-- The dequantised value at depth `d` of feature `f` of example `b`. -/
def gopd (f : ℕ) (d : Fin 192) (b : Fin 8192) : EReal := gcod A0 A2 f d b * gscl A1 A2 f ⟨d.val / 32, by omega⟩ b

/-- The dot product of features `f` and `g` of example `b`. -/
def gdot (f g : ℕ) (b : Fin 8192) : EReal := ∑ d : Fin 192, gopd A0 A1 A2 f d b * gopd A0 A1 A2 g d b

/-- The four results. -/
def R4 : Vec Ideal S8192x1320 .bf16 := fun y =>
  if h : (y 1).val < 192 then A2 (ix2 (y 0) (⟨(y 1).val, h⟩ : Fin 192)) else gdot A0 A1 A2 (triI ((y 1).val - 192)) (triJ ((y 1).val - 192)) (y 0)
def R5 : Vec Ideal S8192x47 .f32 := fun y => gdot A0 A1 A2 0 ((y 1).val + 1) (y 0)
def R6 : Vec Ideal S8192x192 .fp8e4m3 := fun y => gcod A0 A2 0 (y 1) (y 0)
def R7 : Vec Ideal S8192x6 .f32 := fun y => gscl A1 A2 0 (y 1) (y 0)
end spec

theorem tail_v4 (c : Dev nD) : Pipeline.afterTail₀ cfgs (vdats m) 0 (V0 m) [hostOps1] c main_v4
    = transpose S8192x1320 [1, 0] ((vdats m 0 c).arrAt 3 cfg0.N) transposes_S1320x8192_S8192x1320_1_0 := by
  unfold Pipeline.afterTail₀
  rw [show ([hostOps1] : List (List (HloOp τ sig (Elt Ideal)))).flatten = hostOps1 from rfl]
  unfold hostOps1
  after_results
  rw [Pipeline.withArrays_arr spec0 (by decide) c _ _ 3]

theorem tail_arg0 (c : Dev nD) : Pipeline.afterTail₀ cfgs (vdats m) 0 (V0 m) [hostOps1] c main_arg0 = m ((c.tc : Thread nD τ).loc main_arg0) := by
  unfold Pipeline.afterTail₀
  rw [show ([hostOps1] : List (List (HloOp τ sig (Elt Ideal)))).flatten = hostOps1 from rfl]
  unfold hostOps1
  after_results
  refine (Pipeline.withArrays_of_ne spec0 c _ _ _ (by decide)).trans (V_main_arg0 m c)

theorem tail_v5 (c : Dev nD) : Pipeline.afterTail₀ cfgs (vdats m) 0 (V0 m) [hostOps1] c main_v5
    = transpose S8192x47 [1, 0] ((vdats m 0 c).arrAt 4 cfg0.N) transposes_S47x8192_S8192x47_1_0 := by
  unfold Pipeline.afterTail₀
  rw [show ([hostOps1] : List (List (HloOp τ sig (Elt Ideal)))).flatten = hostOps1 from rfl]
  unfold hostOps1
  after_results
  rw [Pipeline.withArrays_arr spec0 (by decide) c _ _ 4]

theorem tail_v6 (c : Dev nD) : Pipeline.afterTail₀ cfgs (vdats m) 0 (V0 m) [hostOps1] c main_v6
    = transpose S8192x192 [1, 0] ((vdats m 0 c).arrAt 5 cfg0.N) transposes_S192x8192_S8192x192_1_0 := by
  unfold Pipeline.afterTail₀
  rw [show ([hostOps1] : List (List (HloOp τ sig (Elt Ideal)))).flatten = hostOps1 from rfl]
  unfold hostOps1
  after_results
  rw [Pipeline.withArrays_arr spec0 (by decide) c _ _ 5]

theorem tail_v7 (c : Dev nD) : Pipeline.afterTail₀ cfgs (vdats m) 0 (V0 m) [hostOps1] c main_v7
    = transpose S8192x6 [1, 0] ((vdats m 0 c).arrAt 6 cfg0.N) transposes_S6x8192_S8192x6_1_0 := by
  unfold Pipeline.afterTail₀
  rw [show ([hostOps1] : List (List (HloOp τ sig (Elt Ideal)))).flatten = hostOps1 from rfl]
  unfold hostOps1
  after_results
  rw [Pipeline.withArrays_arr spec0 (by decide) c _ _ 6]

theorem tail_arg1 (c : Dev nD) : Pipeline.afterTail₀ cfgs (vdats m) 0 (V0 m) [hostOps1] c main_arg1 = m ((c.tc : Thread nD τ).loc main_arg1) := by
  unfold Pipeline.afterTail₀
  rw [show ([hostOps1] : List (List (HloOp τ sig (Elt Ideal)))).flatten = hostOps1 from rfl]
  unfold hostOps1
  after_results
  refine (Pipeline.withArrays_of_ne spec0 c _ _ _ (by decide)).trans (V_main_arg1 m c)

theorem tail_arg2 (c : Dev nD) : Pipeline.afterTail₀ cfgs (vdats m) 0 (V0 m) [hostOps1] c main_arg2 = m ((c.tc : Thread nD τ).loc main_arg2) := by
  unfold Pipeline.afterTail₀
  rw [show ([hostOps1] : List (List (HloOp τ sig (Elt Ideal)))).flatten = hostOps1 from rfl]
  unfold hostOps1
  after_results
  refine (Pipeline.withArrays_of_ne spec0 c _ _ _ (by decide)).trans (V_main_arg2 m c)

theorem V_v0 (c : Dev nD) : V m c main_v0 = transpose S47x192x8192 [1, 2, 0] (m ((c : Thread nD τ).loc main_arg0)) transposes_S8192x47x192_S47x192x8192_1_2_0 := by
  unfold V V0
  rw [show (List.flatten [hostOps0] : List (HloOp τ sig (Elt Ideal))) = hostOps0 from rfl]
  unfold hostOps0
  after_results
theorem V_v1 (c : Dev nD) : V m c main_v1 = transpose S6x47x8192 [2, 1, 0] (m ((c : Thread nD τ).loc main_arg1)) transposes_S8192x47x6_S6x47x8192_2_1_0 := by
  unfold V V0
  rw [show (List.flatten [hostOps0] : List (HloOp τ sig (Elt Ideal))) = hostOps0 from rfl]
  unfold hostOps0
  after_results
theorem V_v2 (c : Dev nD) : V m c main_v2 = transpose S192x8192 [1, 0] (m ((c : Thread nD τ).loc main_arg2)) transposes_S8192x192_S192x8192_1_0 := by
  unfold V V0
  rw [show (List.flatten [hostOps0] : List (HloOp τ sig (Elt Ideal))) = hostOps0 from rfl]
  unfold hostOps0
  after_results

theorem idx : ∀ t : Fin cfg0.N, (cfg0.win 0).index t = ![0, 0, t.val] ∧ (cfg0.win 1).index t = ![0, 0, t.val] ∧ (cfg0.win 2).index t = ![0, t.val]
    ∧ (cfg0.win 3).index t = ![0, t.val] ∧ (cfg0.win 4).index t = ![0, t.val] ∧ (cfg0.win 5).index t = ![0, t.val] ∧ (cfg0.win 6).index t = ![0, t.val] := by
  decide +kernel

theorem blk0 (c : Dev nD) (t : Fin cfg0.N) (f : Fin 47) (d : Fin 192) (l : Fin 128) (b : Fin 8192) (hb : b.val = 128 * t.val + l.val) :
    iblk m c 0 t (ix3 f d l) = m ((c.tc : Thread nD τ).loc main_arg0) (ix3 b f d) := by
  have e : ∀ y : S47x192x8192.Idx, y = ix3 f d b → V m c main_v0 y = m ((c.tc : Thread nD τ).loc main_arg0) (ix3 b f d) := by
    rintro y rfl
    rw [V_v0]; pointwise
  refine e (((cfg0.win 0).blk t).view.emb (ix3 f d l)) ?_
  blk_ext [idx t]

theorem blk1 (c : Dev nD) (t : Fin cfg0.N) (k : Fin 6) (f : Fin 47) (l : Fin 128) (b : Fin 8192) (hb : b.val = 128 * t.val + l.val) :
    iblk m c 1 t (ix3 k f l) = m ((c.tc : Thread nD τ).loc main_arg1) (ix3 b f k) := by
  have e : ∀ y : S6x47x8192.Idx, y = ix3 k f b → V m c main_v1 y = m ((c.tc : Thread nD τ).loc main_arg1) (ix3 b f k) := by
    rintro y rfl
    rw [V_v1]; pointwise
  refine e (((cfg0.win 1).blk t).view.emb (ix3 k f l)) ?_
  blk_ext [idx t]

theorem blk2 (c : Dev nD) (t : Fin cfg0.N) (d : Fin 192) (l : Fin 128) (b : Fin 8192) (hb : b.val = 128 * t.val + l.val) :
    iblk m c 2 t (ix2 d l) = m ((c.tc : Thread nD τ).loc main_arg2) (ix2 b d) := by
  have e : ∀ y : S192x8192.Idx, y = ix2 d b → V m c main_v2 y = m ((c.tc : Thread nD τ).loc main_arg2) (ix2 b d) := by
    rintro y rfl
    rw [V_v2]; pointwise
  refine e (((cfg0.win 2).blk t).view.emb (ix2 d l)) ?_
  blk_ext [idx t]

section columns
variable (c : Dev nD) (t : Fin cfg0.N) (l : Fin 128) (b : Fin 8192) (hb : b.val = 128 * t.val + l.val)
include hb

theorem colMax_col (k : Fin 6) : colMax (iblk m c 2 t) k l = gmax (m ((c.tc : Thread nD τ).loc main_arg2)) k b := by
  unfold colMax gmax
  exact congrArg groupMax (funext fun r => blk2 m c t _ l b hb)

theorem scl_col (f : ℕ) (k : Fin 6) :
    scl (iblk m c 1 t) (iblk m c 2 t) f k l = gscl (m ((c.tc : Thread nD τ).loc main_arg1)) (m ((c.tc : Thread nD τ).loc main_arg2)) f k b := by
  unfold scl gscl
  rw [colMax_col m c t l b hb]
  split_ifs with h0 h
  · rfl
  · exact blk1 m c t _ _ l b hb
  · rfl

theorem code_col (d : Fin 192) :
    codeS (iblk m c 2 t) (ix2 d l) = codeK (gmax (m ((c.tc : Thread nD τ).loc main_arg2)) ⟨d.val / 32, by omega⟩ b) (m ((c.tc : Thread nD τ).loc main_arg2) (ix2 b d)) :=
  congrArg₂ codeK (colMax_col m c t l b hb _) (blk2 m c t d l b hb)

theorem cod_col (f : ℕ) (d : Fin 192) :
    cod (iblk m c 0 t) (iblk m c 2 t) f d l = gcod (m ((c.tc : Thread nD τ).loc main_arg0)) (m ((c.tc : Thread nD τ).loc main_arg2)) f d b := by
  unfold cod gcod
  rw [code_col m c t l b hb]
  split_ifs with h0 h
  · rfl
  · exact blk0 m c t _ _ l b hb
  · rfl

theorem dotv_col (f g : ℕ) :
    dotv (iblk m c 0 t) (iblk m c 1 t) (iblk m c 2 t) f g l
      = gdot (m ((c.tc : Thread nD τ).loc main_arg0)) (m ((c.tc : Thread nD τ).loc main_arg1)) (m ((c.tc : Thread nD τ).loc main_arg2)) f g b := by
  unfold dotv gdot opd gopd
  simp only [cod_col m c t l b hb, scl_col m c t l b hb]
end columns

theorem points : cfg0.N = 64 := by decide +kernel

theorem arr3 (c : Dev nD) : (vdats m 0 c).arrAt 3 cfg0.N = fun y : S1320x8192.Idx => R4 (m ((c.tc : Thread nD τ).loc main_arg0)) (m ((c.tc : Thread nD τ).loc main_arg1)) (m ((c.tc : Thread nD τ).loc main_arg2)) (ix2 (y 1) (y 0)) := by
  refine (vdats m 0 c).arrAt_eq_of_covers 3 _ (by decide +kernel) fun t hf y => ?_
  have e : ∀ (r : Fin 1320) (l : Fin 128) (z : S1320x8192.Idx), (z 0).val = r.val → (z 1).val = 128 * t.val + l.val →
      (vdats m 0 c).after 3 t (ix2 r l) = R4 (m ((c.tc : Thread nD τ).loc main_arg0)) (m ((c.tc : Thread nD τ).loc main_arg1)) (m ((c.tc : Thread nD τ).loc main_arg2)) (ix2 (z 1) (z 0)) := by
    intro r l z z0 hb
    obtain rfl : z 0 = r := Fin.ext z0
    rw [vafter_3]
    exact dite_congr rfl (fun h => blk2 m c t _ l _ hb) fun h => dotv_col m c t l _ hb _ _
  blk_simp
  obtain ⟨r, l, rfl⟩ : ∃ (r : Fin 1320) (l : Fin 128), y = ix2 r l := ⟨y 0, y 1, eq_ix2 y⟩
  refine e r l _ ?_ ?_
  · exact (Idealize.ShloMosaic.ValueKit.rect_emb_unit_val _ _ _ _ _).trans (by simp [idx t])
  · exact (Idealize.ShloMosaic.ValueKit.rect_emb_unit_val _ _ _ _ _).trans (by simp [idx t, Pipeline.WinKind.off, Nat.mul_comm])

theorem arr4 (c : Dev nD) : (vdats m 0 c).arrAt 4 cfg0.N = fun y : S47x8192.Idx => R5 (m ((c.tc : Thread nD τ).loc main_arg0)) (m ((c.tc : Thread nD τ).loc main_arg1)) (m ((c.tc : Thread nD τ).loc main_arg2)) (ix2 (y 1) (y 0)) := by
  refine (vdats m 0 c).arrAt_eq_of_covers 4 _ (by decide +kernel) fun t hf y => ?_
  have e : ∀ (r : Fin 47) (l : Fin 128) (z : S47x8192.Idx), (z 0).val = r.val → (z 1).val = 128 * t.val + l.val →
      (vdats m 0 c).after 4 t (ix2 r l) = R5 (m ((c.tc : Thread nD τ).loc main_arg0)) (m ((c.tc : Thread nD τ).loc main_arg1)) (m ((c.tc : Thread nD τ).loc main_arg2)) (ix2 (z 1) (z 0)) := by
    intro r l z z0 hb
    obtain rfl : z 0 = r := Fin.ext z0
    rw [vafter_4]
    exact dotv_col m c t l _ hb _ _
  blk_simp
  obtain ⟨r, l, rfl⟩ : ∃ (r : Fin 47) (l : Fin 128), y = ix2 r l := ⟨y 0, y 1, eq_ix2 y⟩
  refine e r l _ ?_ ?_
  · exact (Idealize.ShloMosaic.ValueKit.rect_emb_unit_val _ _ _ _ _).trans (by simp [idx t])
  · exact (Idealize.ShloMosaic.ValueKit.rect_emb_unit_val _ _ _ _ _).trans (by simp [idx t, Pipeline.WinKind.off, Nat.mul_comm])

theorem arr5 (c : Dev nD) : (vdats m 0 c).arrAt 5 cfg0.N = fun y : S192x8192.Idx => R6 (m ((c.tc : Thread nD τ).loc main_arg0)) (m ((c.tc : Thread nD τ).loc main_arg2)) (ix2 (y 1) (y 0)) := by
  refine (vdats m 0 c).arrAt_eq_of_covers 5 _ (by decide +kernel) fun t hf y => ?_
  have e : ∀ (r : Fin 192) (l : Fin 128) (z : S192x8192.Idx), (z 0).val = r.val → (z 1).val = 128 * t.val + l.val →
      (vdats m 0 c).after 5 t (ix2 r l) = R6 (m ((c.tc : Thread nD τ).loc main_arg0)) (m ((c.tc : Thread nD τ).loc main_arg2)) (ix2 (z 1) (z 0)) := by
    intro r l z z0 hb
    obtain rfl : z 0 = r := Fin.ext z0
    rw [vafter_5]
    exact code_col m c t l _ hb _
  blk_simp
  obtain ⟨r, l, rfl⟩ : ∃ (r : Fin 192) (l : Fin 128), y = ix2 r l := ⟨y 0, y 1, eq_ix2 y⟩
  refine e r l _ ?_ ?_
  · exact (Idealize.ShloMosaic.ValueKit.rect_emb_unit_val _ _ _ _ _).trans (by simp [idx t])
  · exact (Idealize.ShloMosaic.ValueKit.rect_emb_unit_val _ _ _ _ _).trans (by simp [idx t, Pipeline.WinKind.off, Nat.mul_comm])

theorem arr6 (c : Dev nD) : (vdats m 0 c).arrAt 6 cfg0.N = fun y : S6x8192.Idx => R7 (m ((c.tc : Thread nD τ).loc main_arg1)) (m ((c.tc : Thread nD τ).loc main_arg2)) (ix2 (y 1) (y 0)) := by
  refine (vdats m 0 c).arrAt_eq_of_covers 6 _ (by decide +kernel) fun t hf y => ?_
  have e : ∀ (r : Fin 6) (l : Fin 128) (z : S6x8192.Idx), (z 0).val = r.val → (z 1).val = 128 * t.val + l.val →
      (vdats m 0 c).after 6 t (ix2 r l) = R7 (m ((c.tc : Thread nD τ).loc main_arg1)) (m ((c.tc : Thread nD τ).loc main_arg2)) (ix2 (z 1) (z 0)) := by
    intro r l z z0 hb
    obtain rfl : z 0 = r := Fin.ext z0
    rw [vafter_6]
    exact congrArg scaleK (colMax_col m c t l _ hb _)
  blk_simp
  obtain ⟨r, l, rfl⟩ : ∃ (r : Fin 6) (l : Fin 128), y = ix2 r l := ⟨y 0, y 1, eq_ix2 y⟩
  refine e r l _ ?_ ?_
  · exact (Idealize.ShloMosaic.ValueKit.rect_emb_unit_val _ _ _ _ _).trans (by simp [idx t])
  · exact (Idealize.ShloMosaic.ValueKit.rect_emb_unit_val _ _ _ _ _).trans (by simp [idx t, Pipeline.WinKind.off, Nat.mul_comm])

theorem res_v4 (c : Dev nD) : Pipeline.afterTail₀ cfgs (vdats m) 0 (V0 m) [hostOps1] c main_v4 = R4 (m ((c.tc : Thread nD τ).loc main_arg0)) (m ((c.tc : Thread nD τ).loc main_arg1)) (m ((c.tc : Thread nD τ).loc main_arg2)) := by
  rw [tail_v4, arr3]
  funext y
  obtain ⟨b, n, rfl⟩ : ∃ (b : Fin 8192) (n : Fin 1320), y = ix2 b n := ⟨y 0, y 1, eq_ix2 y⟩
  pointwise

theorem res_v5 (c : Dev nD) : Pipeline.afterTail₀ cfgs (vdats m) 0 (V0 m) [hostOps1] c main_v5 = R5 (m ((c.tc : Thread nD τ).loc main_arg0)) (m ((c.tc : Thread nD τ).loc main_arg1)) (m ((c.tc : Thread nD τ).loc main_arg2)) := by
  rw [tail_v5, arr4]
  funext y
  obtain ⟨b, n, rfl⟩ : ∃ (b : Fin 8192) (n : Fin 47), y = ix2 b n := ⟨y 0, y 1, eq_ix2 y⟩
  pointwise

theorem res_v6 (c : Dev nD) : Pipeline.afterTail₀ cfgs (vdats m) 0 (V0 m) [hostOps1] c main_v6 = R6 (m ((c.tc : Thread nD τ).loc main_arg0)) (m ((c.tc : Thread nD τ).loc main_arg2)) := by
  rw [tail_v6, arr5]
  funext y
  obtain ⟨b, n, rfl⟩ : ∃ (b : Fin 8192) (n : Fin 192), y = ix2 b n := ⟨y 0, y 1, eq_ix2 y⟩
  pointwise

theorem res_v7 (c : Dev nD) : Pipeline.afterTail₀ cfgs (vdats m) 0 (V0 m) [hostOps1] c main_v7 = R7 (m ((c.tc : Thread nD τ).loc main_arg1)) (m ((c.tc : Thread nD τ).loc main_arg2)) := by
  rw [tail_v7, arr6]
  funext y
  obtain ⟨b, n, rfl⟩ : ∃ (b : Fin 8192) (n : Fin 6), y = ix2 b n := ⟨y 0, y 1, eq_ix2 y⟩
  pointwise

theorem kernel_value : θ_run defs (onTc (τ := τ) (main (F := Ideal))) ⟨m, fun _ => 0, ρ⟩ (fun r => ∀ c : Dev nD,
      r.2.mem ((c.tc : Thread nD τ).loc main_v4) = R4 (m ((c.tc : Thread nD τ).loc main_arg0)) (m ((c.tc : Thread nD τ).loc main_arg1)) (m ((c.tc : Thread nD τ).loc main_arg2))
      ∧ r.2.mem ((c.tc : Thread nD τ).loc main_v5) = R5 (m ((c.tc : Thread nD τ).loc main_arg0)) (m ((c.tc : Thread nD τ).loc main_arg1)) (m ((c.tc : Thread nD τ).loc main_arg2))
      ∧ r.2.mem ((c.tc : Thread nD τ).loc main_v6) = R6 (m ((c.tc : Thread nD τ).loc main_arg0)) (m ((c.tc : Thread nD τ).loc main_arg2))
      ∧ r.2.mem ((c.tc : Thread nD τ).loc main_v7) = R7 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from value_main m ρ
  · exact res_v4 m c
  · exact res_v5 m c
  · exact res_v6 m c
  · exact res_v7 m c
  · exact tail_arg0 m c
  · exact tail_arg1 m c
  · exact tail_arg2 m c

end Cert.KernelIdeal.Hand

end
-- ==== Proof.ReferenceIdeal.Spec.lean ====
/-
  What the reference's quantiser computes of a group of 32 values.
-/
module

public import proofs.«01_k».proof.ReferenceIdeal
public import proofs.«01_k».proof.Proof.Gen.ReferenceIdeal
public import proofs.«01_k».proof.Proof.KernelIdeal.Quant

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

open Cert.KernelIdeal.Hand (groupMax)

/-- The exponent the reference takes for a group whose largest magnitude is `g`. -/
def expR (g : EReal) : EReal :=
  if g * Ideal.ofBits FTy.f32 991054117#32 < Ideal.ofBits FTy.f32 8388608#32 then 0
  else Ideal.liftRound Int.floor (Ideal.div (Ideal.log (g * Ideal.ofBits FTy.f32 991054117#32)) (Ideal.log (Ideal.ofBits FTy.f32 1073741824#32))) + 1

/-- The scale the reference takes for such a group. -/
def scaleR (g : EReal) : EReal := Ideal.exp (expR g * Ideal.log (Ideal.ofBits FTy.f32 1073741824#32))

/-- The code the reference takes for `x` in such a group. -/
def codeR (g x : EReal) : EReal :=
  min (max (x * Ideal.exp (-expR g * Ideal.log (Ideal.ofBits FTy.f32 1073741824#32))) (Ideal.ofBits FTy.f32 3286237184#32)) (Ideal.ofBits FTy.f32 1138753536#32)

/-- The largest magnitude of group `k` of example `b`. -/
def gmaxR (A2 : Vec Ideal S8192x192 .bf16) (k : Fin 6) (b : Fin 8192) : EReal :=
  groupMax fun r : Fin 32 => A2 (ix2 b (⟨k.val * 32 + r.val, by omega⟩ : Fin 192))

end Cert.ReferenceIdeal.Hand

end
-- ==== Proof.ReferenceIdeal.Values.lean ====
/-
  The reference's quantiser: its scales and its codes, index by index.
-/
module

public import proofs.«01_k».proof.Proof.Gen.ReferenceIdeal.Frame
public import proofs.«01_k».proof.Proof.ReferenceIdeal.Spec
public import Idealize.ShloMosaic.Lib.Pointwise
public import Idealize.ShloMosaic.Lib.Claim
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

open Cert.KernelIdeal.Hand (groupMax)

variable (m : (ℓ : Loc nD τ sig) → Buf (Elt Ideal) ℓ) (ρ : Dev nD → PrngReg)

set_option maxHeartbeats 4000000 in
/-- The reference's scales. -/
theorem v19_at (c : Dev nD) (b : Fin 8192) (k : Fin 6) :
    V m c main_v19 (ix2 b k) = scaleR (gmaxR (m ((c.tc : Thread nD τ).loc main_arg2)) k b) := by
  unfold V V0
  rw [show (List.flatten [hostOps0] : List (HloOp τ sig (Elt Ideal))) = hostOps0 from rfl]
  unfold hostOps0
  after_results
  pointwise
  rfl

set_option maxHeartbeats 4000000 in
/-- The reference's codes, before they are cast. -/
theorem v31_at (c : Dev nD) (b : Fin 8192) (d : Fin 192) :
    V m c main_v31 (ix2 b d) = codeR (gmaxR (m ((c.tc : Thread nD τ).loc main_arg2)) ⟨d.val / 32, by omega⟩ b) (m ((c.tc : Thread nD τ).loc main_arg2) (ix2 b d)) := by
  unfold V V0
  rw [show (List.flatten [hostOps0] : List (HloOp τ sig (Elt Ideal))) = hostOps0 from rfl]
  unfold hostOps0
  after_results
  pointwise
  have ed : (⟨d.val / 32 * 32 + d.val % 32, by omega⟩ : Fin 192) = d := Fin.ext (by dsimp only; omega)
  exact congrArg (fun z : Fin 192 => codeR (gmaxR (m ((c.tc : Thread nD τ).loc main_arg2)) ⟨d.val / 32, by omega⟩ b) (m ((c.tc : Thread nD τ).loc main_arg2) (ix2 b z))) ed

end Cert.ReferenceIdeal.Hand

end
-- ==== Proof.ReferenceIdeal.Exponent.lean ====
/-
  The exponent the kernel counts out is the one the reference takes by logarithms.
-/
module

public import proofs.«01_k».proof.Proof.ReferenceIdeal.Spec
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

open Cert.KernelIdeal.Hand (groupMax biasedBits expBits scaleK codeK)

/-- The word of the power of two with exponent field `j`. -/
def powWord (j : ℕ) : BitVec 32 := BitVec.ofNat 32 (j * 2 ^ 23)

theorem powWord_fields : ∀ j : Fin 255, ((powWord j.val).extractLsb' 31 1 == 1#1) = false ∧ ((powWord j.val).extractLsb' 23 8).toNat = j.val
    ∧ ((powWord j.val).extractLsb' 0 23).toNat = 0 := by
  decide +kernel

/-- A word whose exponent field is `j` and whose fraction is zero is a power of two. -/
theorem ofBits_powWord (j : ℕ) (h1 : 1 ≤ j) (h2 : j < 255) : Ideal.ofBits .f32 (powWord j) = (((2 : ℝ) ^ ((j : ℤ) - 127) : ℝ) : EReal) := by
  obtain ⟨a, b, d⟩ := powWord_fields ⟨j, h2⟩
  dsimp only at a b d
  unfold Ideal.ofBits Ideal.ieee
  dsimp only
  rw [a, b, d, if_neg (by omega), if_neg (by omega)]
  congr 1
  rw [show ((j : ℤ) - (2 ^ (8 - 1) - 1) - (23 : ℕ)) = ((j : ℤ) - 127) - 23 by norm_num, zpow_sub₀ (by norm_num : (2 : ℝ) ≠ 0) ((j : ℤ) - 127) 23]
  norm_num
  ring

theorem shl_powWord : ∀ x : Fin 256, IntOp.shli ArithUnit.vector (BitVec.ofNat 32 x.val) 23#32 = powWord x.val := by decide +kernel

theorem ofBits_zero_word : Ideal.ofBits .f32 (powWord 0) = 0 := Ideal.ofBits_zero_f32

theorem ofBits_top : Ideal.ofBits .f32 (powWord 255) = ⊤ := by
  show Ideal.ieee 8 23 (powWord 255) = ⊤
  unfold Ideal.ieee
  dsimp only
  rw [show ((powWord 255).extractLsb' 23 8).toNat = 255 by decide +kernel, show ((powWord 255).extractLsb' 0 23).toNat = 0 by decide +kernel,
    show ((powWord 255).extractLsb' (8 + 23) 1 == 1#1) = false by decide +kernel]
  simp

/-- The count over the exponent fields, where the `k + 1` least count. -/
theorem count_eq : ∀ k : Fin 248, IntOp.subi (Finset.fold IntOp.addi (0#32) (fun x : Fin 256 => if k.val < x.val then 0#32 else 1#32) Finset.univ) 1#32
    = BitVec.ofNat 32 k.val := by
  decide +kernel

/-- The exponent word of a field. -/
def expWord (k : ℕ) : BitVec 32 := if k = 0 then 0#32 else IntOp.subi (BitVec.ofNat 32 k) 126#32

theorem expWord_scale : ∀ k : Fin 248, IntOp.shli ArithUnit.vector (IntOp.addi (expWord k.val) 127#32) 23#32 = powWord (if k.val = 0 then 127 else k.val + 1) := by
  decide +kernel
theorem expWord_code : ∀ k : Fin 248, IntOp.shli ArithUnit.vector (IntOp.subi 127#32 (expWord k.val)) 23#32 = powWord (if k.val = 0 then 127 else 253 - k.val) := by
  decide +kernel
theorem ne_word : ∀ k : Fin 248, k.val ≠ 0 → IntOp.cmpi CmpIPredicate.eq (BitVec.ofNat 32 k.val) 0#32 = 0#1 := by decide +kernel

/-- The field `k` of a magnitude: its power of two is at most `y`, the next one is above. -/
def Field (y : EReal) (k : ℕ) : Prop := ∀ x : Fin 256, y < Ideal.ofBits .f32 (powWord x.val) ↔ k < x.val

theorem biasedBits_eq (g : EReal) (k : ℕ) (hk : k < 248) (h : Field (g * Ideal.ofBits .f32 991054117#32) k) : biasedBits g = BitVec.ofNat 32 k := by
  rw [← count_eq ⟨k, hk⟩]
  unfold biasedBits
  refine congrArg (fun f => IntOp.subi (Finset.fold IntOp.addi (0#32) f Finset.univ) 1#32) (funext fun x => ?_)
  rw [shl_powWord x]
  exact if_congr (h x) rfl rfl

theorem expBits_eq (g : EReal) (k : ℕ) (hk : k < 248) (h : Field (g * Ideal.ofBits .f32 991054117#32) k) : expBits g = expWord k := by
  unfold expBits
  rw [biasedBits_eq g k hk h]
  by_cases h0 : k = 0
  · subst h0
    unfold expWord
    rw [if_pos rfl]
    by_cases hg : g = 0
    · simp [hg, Scalar.select, IntOp.ori, IntOp.cmpi]
    · simp [hg, Scalar.select, IntOp.ori, IntOp.cmpi]
  · have hg : g ≠ 0 := by
      rintro rfl
      have h1 := (h 1).1 (by
        rw [zero_mul, show ((1 : Fin 256).val) = 1 from rfl, ofBits_powWord 1 (by omega) (by omega)]
        exact EReal.coe_pos.2 (zpow_pos two_pos _))
      have h2 : k < 1 := h1
      omega
    rw [ne_word ⟨k, hk⟩ h0]
    unfold expWord
    rw [if_neg h0]
    simp [hg, Scalar.select, IntOp.ori]

theorem coe_two : Ideal.ofBits .f32 1073741824#32 = ((2 : ℝ) : EReal) := by
  have := ofBits_powWord 128 (by omega) (by omega)
  norm_num at this
  exact this

theorem exp_int (n : ℤ) : Real.exp ((n : ℝ) * Real.log 2) = (2 : ℝ) ^ n := by
  rw [← Real.rpow_intCast, Real.rpow_def_of_pos two_pos, mul_comm]

theorem log_coe (r : ℝ) (h : 0 < r) : Ideal.log (r : EReal) = ((Real.log r : ℝ) : EReal) := by
  show (if r ≤ 0 then (⊥ : EReal) else (Real.log r : EReal)) = _
  rw [if_neg (not_le.2 h)]

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The constant `1 / 448`, rounded. -/
def inv448 : ℝ := 9586981 / 2 ^ 32

theorem ofBits_inv448 : Ideal.ofBits .f32 991054117#32 = ((inv448 : ℝ) : EReal) := by
  show Ideal.ieee 8 23 (991054117#32) = _
  unfold Ideal.ieee inv448
  dsimp only
  rw [show ((991054117#32 : BitVec 32).extractLsb' 23 8).toNat = 118 by decide +kernel, show ((991054117#32 : BitVec 32).extractLsb' 0 23).toNat = 1198373 by decide +kernel,
    show ((991054117#32 : BitVec 32).extractLsb' (8 + 23) 1 == 1#1) = false by decide +kernel]
  rw [if_neg (by norm_num), if_neg (by norm_num)]
  congr 1
  norm_num [zpow_neg, zpow_ofNat]

theorem ofBits_bound : Ideal.ofBits .f32 2139029504#32 = ((255 * 2 ^ 120 : ℝ) : EReal) := by
  show Ideal.ieee 8 23 (2139029504#32) = _
  unfold Ideal.ieee
  dsimp only
  rw [show ((2139029504#32 : BitVec 32).extractLsb' 23 8).toNat = 254 by decide +kernel, show ((2139029504#32 : BitVec 32).extractLsb' 0 23).toNat = 8323072 by decide +kernel,
    show ((2139029504#32 : BitVec 32).extractLsb' (8 + 23) 1 == 1#1) = false by decide +kernel]
  rw [if_neg (by norm_num), if_neg (by norm_num)]
  congr 1
  norm_num [zpow_neg, zpow_ofNat]

theorem field_of (r : ℝ) (k : ℕ) (hk : k < 248) (h0 : 0 ≤ r) (hlo : k ≠ 0 → (2 : ℝ) ^ ((k : ℤ) - 127) ≤ r) (hhi : r < (2 : ℝ) ^ ((k : ℤ) + 1 - 127)) :
    Field (r : EReal) k := by
  intro x
  rcases Nat.eq_zero_or_pos x.val with hx | hx
  · rw [hx, ofBits_zero_word]
    exact iff_of_false (not_lt.2 (by exact_mod_cast h0)) (by omega)
  rcases Nat.lt_or_ge x.val 255 with hx' | hx'
  · rw [ofBits_powWord x.val hx hx', EReal.coe_lt_coe_iff]
    constructor
    · intro hlt
      by_contra hge
      have := hlo (by omega)
      have h2 : (2 : ℝ) ^ ((x.val : ℤ) - 127) ≤ (2 : ℝ) ^ ((k : ℤ) - 127) := zpow_le_zpow_right₀ (by norm_num) (by omega)
      linarith
    · intro hlt
      have h2 : (2 : ℝ) ^ ((k : ℤ) + 1 - 127) ≤ (2 : ℝ) ^ ((x.val : ℤ) - 127) := zpow_le_zpow_right₀ (by norm_num) (by omega)
      linarith
  · have hx2 : x.val = 255 := by omega
    rw [hx2, ofBits_top]
    exact iff_of_true (EReal.coe_lt_top r) (by omega)

theorem quant_of (g : EReal) (e : ℤ) (hs : Ideal.ofBits .f32 (IntOp.shli ArithUnit.vector (IntOp.addi (expBits g) 127#32) 23#32) = (((2 : ℝ) ^ e : ℝ) : EReal))
    (hc : Ideal.ofBits .f32 (IntOp.shli ArithUnit.vector (IntOp.subi 127#32 (expBits g)) 23#32) = (((2 : ℝ) ^ (-e) : ℝ) : EReal))
    (hR : expR g = ((e : ℝ) : EReal)) : scaleK g = scaleR g ∧ ∀ x, codeK g x = codeR g x := by
  constructor
  · unfold scaleK scaleR
    rw [hs, hR, coe_two, log_coe 2 two_pos, ← EReal.coe_mul]
    show _ = ((Real.exp _ : ℝ) : EReal)
    rw [exp_int]
  · intro x
    unfold codeK codeR
    rw [hc, hR, coe_two, log_coe 2 two_pos, ← EReal.coe_neg, ← EReal.coe_mul]
    rw [show Ideal.exp ((-(e : ℝ) * Real.log 2 : ℝ) : EReal) = (((2 : ℝ) ^ (-e) : ℝ) : EReal) by
      show ((Real.exp _ : ℝ) : EReal) = _
      rw [← exp_int]; push_cast; rfl]
    rw [min_comm, max_comm]

/-- THE QUANTISERS AGREE at every group of finite values. -/
theorem quant (g : EReal) (h0 : 0 ≤ g) (h1 : g ≤ Ideal.ofBits .f32 2139029504#32) : scaleK g = scaleR g ∧ ∀ x, codeK g x = codeR g x := by
  rw [ofBits_bound] at h1
  have hb : g ≠ ⊥ := fun h => by rw [h] at h0; exact absurd h0 (by simp)
  have ht : g ≠ ⊤ := fun h => by rw [h] at h1; exact absurd h1 (not_le.2 (EReal.coe_lt_top _))
  lift g to ℝ using ⟨ht, hb⟩
  have r0 : 0 ≤ g := by exact_mod_cast h0
  have r1 : g ≤ 255 * 2 ^ 120 := by exact_mod_cast h1
  have hy : (g : EReal) * Ideal.ofBits .f32 991054117#32 = ((g * inv448 : ℝ) : EReal) := by rw [ofBits_inv448, EReal.coe_mul]
  have y0 : 0 ≤ g * inv448 := mul_nonneg r0 (by unfold inv448; positivity)
  have y1 : g * inv448 < 2 ^ 120 := by
    have : g * inv448 ≤ 255 * 2 ^ 120 * inv448 := mul_le_mul_of_nonneg_right r1 (by unfold inv448; positivity)
    refine this.trans_lt ?_
    unfold inv448
    norm_num
  have small : Ideal.ofBits .f32 8388608#32 = (((2 : ℝ) ^ (-126 : ℤ) : ℝ) : EReal) := by
    have := ofBits_powWord 1 (by omega) (by omega)
    exact this
  generalize hY : g * inv448 = y at hy y0 y1
  rcases lt_or_ge y ((2 : ℝ) ^ (-126 : ℤ)) with hlt | hge
  · have he := expBits_eq (g : EReal) 0 (by omega) (by
      rw [hy]
      exact field_of y 0 (by omega) y0 (fun h => absurd rfl h) (by simpa using hlt))
    refine quant_of _ 0 ?_ ?_ ?_
    · rw [he, expWord_scale ⟨0, by omega⟩, if_pos rfl, ofBits_powWord 127 (by omega) (by omega)]; norm_num
    · rw [he, expWord_code ⟨0, by omega⟩, if_pos rfl, ofBits_powWord 127 (by omega) (by omega)]; norm_num
    · unfold expR
      rw [hy, small, if_pos (by exact_mod_cast hlt)]; simp
  · have ypos : 0 < y := lt_of_lt_of_le (zpow_pos two_pos _) hge
    have l2 : 0 < Real.log 2 := Real.log_pos (by norm_num)
    obtain ⟨n, hn⟩ : ∃ n : ℤ, n = ⌊Real.log y / Real.log 2⌋ := ⟨_, rfl⟩
    have lo : (2 : ℝ) ^ n ≤ y := by
      rw [← exp_int, ← Real.exp_log ypos]
      refine Real.exp_le_exp.2 ?_
      rw [← le_div_iff₀ l2, hn]
      exact Int.floor_le _
    have hi : y < (2 : ℝ) ^ (n + 1) := by
      rw [← exp_int, ← Real.exp_log ypos]
      refine Real.exp_lt_exp.2 ?_
      rw [← div_lt_iff₀ l2, hn]
      push_cast
      exact Int.lt_floor_add_one _
    have n0 : -126 ≤ n := by
      by_contra h
      have : (2 : ℝ) ^ (n + 1) ≤ (2 : ℝ) ^ (-126 : ℤ) := zpow_le_zpow_right₀ (by norm_num) (by omega)
      linarith
    have n1 : n < 120 := by
      by_contra h
      have : (2 : ℝ) ^ (120 : ℤ) ≤ (2 : ℝ) ^ n := zpow_le_zpow_right₀ (by norm_num) (by omega)
      have e : (2 : ℝ) ^ (120 : ℤ) = 2 ^ 120 := by norm_cast
      linarith
    obtain ⟨k, hk⟩ : ∃ k : ℕ, (k : ℤ) = n + 127 := ⟨(n + 127).toNat, by omega⟩
    have he := expBits_eq (g : EReal) k (by omega) (by
      rw [hy]
      refine field_of y k (by omega) y0 (fun h => ?_) ?_
      · rw [show (k : ℤ) - 127 = n by omega]; exact lo
      · rw [show (k : ℤ) + 1 - 127 = n + 1 by omega]; exact hi)
    refine quant_of _ (n + 1) ?_ ?_ ?_
    · rw [he, expWord_scale ⟨k, by omega⟩, if_neg (by dsimp only; omega), ofBits_powWord _ (by dsimp only; omega) (by dsimp only; omega)]
      dsimp only
      rw [show ((k + 1 : ℕ) : ℤ) - 127 = n + 1 by push_cast; omega]
    · rw [he, expWord_code ⟨k, by omega⟩, if_neg (by dsimp only; omega), ofBits_powWord _ (by dsimp only; omega) (by dsimp only; omega)]
      dsimp only
      rw [show ((253 - k : ℕ) : ℤ) - 127 = -(n + 1) by omega]
    · unfold expR
      rw [hy, small, if_neg (not_lt.2 (by exact_mod_cast hge)), coe_two, log_coe 2 two_pos, log_coe y ypos, div_coe _ _ l2.ne']
      show ((⌊Real.log y / Real.log 2⌋ : ℝ) : EReal) + 1 = _
      rw [← hn]
      push_cast
      rfl

theorem groupMax_nonneg (g : Fin 32 → EReal) : 0 ≤ groupMax g := by
  unfold groupMax
  refine (Finset.le_fold_max _).2 (Or.inr ⟨0, Finset.mem_univ _, ?_⟩)
  show 0 ≤ max (g 0) (-(g 0))
  rcases le_total 0 (g 0) with h | h
  · exact le_max_of_le_left h
  · exact le_max_of_le_right (EReal.neg_nonneg.2 h)

theorem groupMax_le (g : Fin 32 → EReal) (M : EReal) (h : ∀ r, max (g r) (-(g r)) ≤ M) : groupMax g ≤ M := by
  unfold groupMax
  refine (Finset.fold_max_le _).2 ⟨?_, fun x _ => h x⟩
  have : Ideal.ofBits FTy.f32 4286578688#32 = ⊥ := by
    show Ideal.ieee 8 23 (4286578688#32) = ⊥
    unfold Ideal.ieee
    dsimp only
    rw [show ((4286578688#32 : BitVec 32).extractLsb' 23 8).toNat = 255 by decide +kernel, show ((4286578688#32 : BitVec 32).extractLsb' 0 23).toNat = 0 by decide +kernel,
      show ((4286578688#32 : BitVec 32).extractLsb' (8 + 23) 1 == 1#1) = true by decide +kernel]
    simp
  rw [this]; exact bot_le

end Cert.ReferenceIdeal.Hand

end
-- ==== Proof.ReferenceIdeal.Tables.lean ====
/-
  The triangle the reference gathers.
-/
module

public import proofs.«01_k».proof.Proof.Gen.ReferenceIdeal.Frame
public import proofs.«01_k».proof.Proof.KernelIdeal.Triangle
public import Idealize.ShloMosaic.Lib.Pointwise
public import Idealize.ShloMosaic.Lib.Claim
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

open Cert.KernelIdeal.Hand (triI triJ)

variable (m : (ℓ : Loc nD τ sig) → Buf (Elt Ideal) ℓ) (ρ : Dev nD → PrngReg)

/-- What the reference leaves in a buffer. -/
abbrev T (c : Dev nD) (b : Ref sig .tc) : Buf (Elt Ideal) ((c.tc : Thread nD τ).loc b) := Pipeline.afterTail₀ cfgs (dats m) 0 (V0 m) [hostOps1] c b

/-- The rows the reference gathers, as it makes them of its two tables. -/
def table (C0 : IVec S1128 1) (C : IVec S1128 32) (k : IVec S_ 32) : IVec S1128x1 32 :=
  broadcastInDim S1128x1 ![0] bcast_S1128_S1128x1_0 (select C0 (addi C (broadcastInDim S1128 ![] bcast_S_S1128 k)) C)

theorem v56_eq (c : Dev nD) : T m c main_v56
    = (truncf (F := Ideal) .bf16 (concatenate S8192x1320 1 [⟨S8192x192, extf (F := Ideal) .f32 (V m c main_arg2) bitsLt_bf16_f32⟩,
        ⟨S8192x1128, Host.gather gather_S8192x48x48_S1128x2_S8192x1128_0_12_n_n_12_1_819211 (T m c main_v43)
          (concatenate S1128x2 1 [⟨S1128x1, table (V m c main_c_0) (V m c main_c) (constantI S_ 32 48#32)⟩, ⟨S1128x1, table (V m c main_c_2) (V m c main_c_1) (constantI S_ 32 48#32)⟩]
            concatenates_S1128x1_S1128x1_S1128x2_d1)⟩] concatenates_S8192x192_S8192x1128_S8192x1320_d1) bitsLt_bf16_f32 : Vec Ideal S8192x1320 .bf16) := by
  unfold T Pipeline.afterTail₀
  rw [show ([hostOps1] : List (List (HloOp τ sig (Elt Ideal)))).flatten = hostOps1 from rfl]
  unfold hostOps1 table
  after_results
  rw [Pipeline.withArrays_of_ne spec0 c (V0 m c) _ main_arg2 (by decide), Pipeline.withArrays_of_ne spec0 c (V0 m c) _ main_c (by decide),
    Pipeline.withArrays_of_ne spec0 c (V0 m c) _ main_c_0 (by decide), Pipeline.withArrays_of_ne spec0 c (V0 m c) _ main_c_1 (by decide),
    Pipeline.withArrays_of_ne spec0 c (V0 m c) _ main_c_2 (by decide)]

theorem V_c (c : Dev nD) : V m c main_c = fun i => lit0 (S1128.rowMajor i) := by
  unfold V V0
  rw [show (List.flatten [hostOps0] : List (HloOp τ sig (Elt Ideal))) = hostOps0 from rfl]
  unfold hostOps0
  after_results
  rfl
theorem V_c_1 (c : Dev nD) : V m c main_c_1 = fun i => lit1 (S1128.rowMajor i) := by
  unfold V V0
  rw [show (List.flatten [hostOps0] : List (HloOp τ sig (Elt Ideal))) = hostOps0 from rfl]
  unfold hostOps0
  after_results
  rfl
theorem V_c_0 (c : Dev nD) : V m c main_c_0 = constantI S1128 1 0#1 := by
  unfold V V0
  rw [show (List.flatten [hostOps0] : List (HloOp τ sig (Elt Ideal))) = hostOps0 from rfl]
  unfold hostOps0
  after_results
theorem V_c_2 (c : Dev nD) : V m c main_c_2 = constantI S1128 1 0#1 := by
  unfold V V0
  rw [show (List.flatten [hostOps0] : List (HloOp τ sig (Elt Ideal))) = hostOps0 from rfl]
  unfold hostOps0
  after_results

theorem table_at (C : IVec S1128 32) (k : IVec S_ 32) (n : Fin 1128) (z : Fin 1) : table (constantI S1128 1 0#1) C k (ix2 n z) = C (ix1 n) := by
  pointwise [table]

/-- The two tables are the rows of the strict lower triangle. -/
theorem lit_tri : ∀ n : Fin 1128, lit0 n = BitVec.ofNat 32 (triI n.val) ∧ lit1 n = BitVec.ofNat 32 (triJ n.val) ∧ triI n.val < 48 ∧ triJ n.val < 48 := by
  decide +kernel

theorem clamp48 : ∀ i : Fin 48, min (BitVec.ofNat 32 i.val).toInt.toNat 47 = i.val := by decide +kernel

/-- The gather reads one element of each example's square. -/
theorem gather_at (D : Vec Ideal S8192x48x48 .f32) (x : IVec S1128x2 32) (b : Fin 8192) (n : Fin 1128) (i j : Fin 48)
    (hi : x (ix2 n (0 : Fin 2)) = BitVec.ofNat 32 i.val) (hj : x (ix2 n (1 : Fin 2)) = BitVec.ofNat 32 j.val) :
    Host.gather gather_S8192x48x48_S1128x2_S8192x1128_0_12_n_n_12_1_819211 D x (ix2 b n) = D (ix3 b i j) := by
  unfold Host.gather
  refine congrArg D (funext fun a => Fin.ext ?_)
  show GatherDims.start _ (ix2 b n) x a + GatherDims.batchCoord _ (ix2 b n) a + GatherDims.offCoord _ (ix2 b n) a = _
  rw [GatherDims.batchCoord_eq_zero _ _ _ List.not_mem_nil]
  match a with
  | ⟨0, _⟩ =>
    unfold GatherDims.start
    rw [dif_neg (show (⟨0, by decide⟩ : Fin S8192x48x48.rank) ∉ GatherDims.startIndexMap gather_S8192x48x48_S1128x2_S8192x1128_0_12_n_n_12_1_819211 from (by decide : (0 : Fin 3) ∉ [(1 : Fin 3), 2]))]
    show 0 + 0 + b.val = b.val
    omega
  | ⟨1, _⟩ =>
    rw [GatherDims.offCoord_eq_zero _ _ _ (fun h => ((GatherDims.mem_sKept _ _).mp h).1 (by decide : (1 : Fin 3) ∈ [(1 : Fin 3), 2] ++ []))]
    unfold GatherDims.start
    rw [dif_pos (show (⟨1, by decide⟩ : Fin S8192x48x48.rank) ∈ GatherDims.startIndexMap gather_S8192x48x48_S1128x2_S8192x1128_0_12_n_n_12_1_819211 from (by decide : (1 : Fin 3) ∈ [(1 : Fin 3), 2]))]
    rw [show GatherDims.siIdx gather_S8192x48x48_S1128x2_S8192x1128_0_12_n_n_12_1_819211 (ix2 b n) ⟨List.idxOf (⟨1, by decide⟩ : Fin S8192x48x48.rank) (GatherDims.startIndexMap gather_S8192x48x48_S1128x2_S8192x1128_0_12_n_n_12_1_819211), List.idxOf_lt_length_iff.2 (by decide : (1 : Fin 3) ∈ [(1 : Fin 3), 2])⟩ = ix2 n (0 : Fin 2) by
      funext q; refine Fin.ext ?_
      match q with
      | ⟨0, _⟩ => rfl
      | ⟨1, _⟩ => rfl]
    rw [hi]
    exact clamp48 i
  | ⟨2, _⟩ =>
    rw [GatherDims.offCoord_eq_zero _ _ _ (fun h => ((GatherDims.mem_sKept _ _).mp h).1 (by decide : (2 : Fin 3) ∈ [(1 : Fin 3), 2] ++ []))]
    unfold GatherDims.start
    rw [dif_pos (show (⟨2, by decide⟩ : Fin S8192x48x48.rank) ∈ GatherDims.startIndexMap gather_S8192x48x48_S1128x2_S8192x1128_0_12_n_n_12_1_819211 from (by decide : (2 : Fin 3) ∈ [(1 : Fin 3), 2]))]
    rw [show GatherDims.siIdx gather_S8192x48x48_S1128x2_S8192x1128_0_12_n_n_12_1_819211 (ix2 b n) ⟨List.idxOf (⟨2, by decide⟩ : Fin S8192x48x48.rank) (GatherDims.startIndexMap gather_S8192x48x48_S1128x2_S8192x1128_0_12_n_n_12_1_819211), List.idxOf_lt_length_iff.2 (by decide : (2 : Fin 3) ∈ [(1 : Fin 3), 2])⟩ = ix2 n (1 : Fin 2) by
      funext q; refine Fin.ext ?_
      match q with
      | ⟨0, _⟩ => rfl
      | ⟨1, _⟩ => rfl]
    rw [hj]
    exact clamp48 j

theorem pair_at (I J : IVec S1128x1 32) (n : Fin 1128) :
    concatenate S1128x2 1 [⟨S1128x1, I⟩, ⟨S1128x1, J⟩] concatenates_S1128x1_S1128x1_S1128x2_d1 (ix2 n (0 : Fin 2)) = I (ix2 n (0 : Fin 1))
    ∧ concatenate S1128x2 1 [⟨S1128x1, I⟩, ⟨S1128x1, J⟩] concatenates_S1128x1_S1128x1_S1128x2_d1 (ix2 n (1 : Fin 2)) = J (ix2 n (0 : Fin 1)) := by
  constructor
  · pointwise
    first | done | rfl
  · pointwise
    first | done | rfl

theorem cat_at (A : Vec Ideal S8192x192 .f32) (D : Vec Ideal S8192x1128 .f32) (b : Fin 8192) (n : Fin 1320) :
    (truncf (F := Ideal) .bf16 (concatenate S8192x1320 1 [⟨S8192x192, A⟩, ⟨S8192x1128, D⟩] concatenates_S8192x192_S8192x1128_S8192x1320_d1) bitsLt_bf16_f32 : Vec Ideal S8192x1320 .bf16) (ix2 b n)
      = if h : n.val < 192 then A (ix2 b (⟨n.val, h⟩ : Fin 192)) else D (ix2 b (⟨n.val - 192, by omega⟩ : Fin 1128)) := by
  pointwise

theorem row1 (n : Fin 1128) : S1128.rowMajor (ix1 n) = n := Fin.ext (by show 0 + n.val = n.val; omega)

/-- THE FIRST RESULT, index by index: the row itself, then the triangle of the square. -/
theorem v56_at (c : Dev nD) (b : Fin 8192) (n : Fin 1320) : T m c main_v56 (ix2 b n)
    = if h : n.val < 192 then V m c main_arg2 (ix2 b (⟨n.val, h⟩ : Fin 192))
      else T m c main_v43 (ix3 b (⟨triI (n.val - 192), (lit_tri ⟨n.val - 192, by omega⟩).2.2.1⟩ : Fin 48) (⟨triJ (n.val - 192), (lit_tri ⟨n.val - 192, by omega⟩).2.2.2⟩ : Fin 48)) := by
  rw [v56_eq m c, cat_at]
  refine dite_congr rfl (fun h => rfl) fun h => ?_
  have t := lit_tri ⟨n.val - 192, by omega⟩
  refine gather_at _ _ b ⟨n.val - 192, by omega⟩ ⟨_, t.2.2.1⟩ ⟨_, t.2.2.2⟩ ?_ ?_
  · rw [(pair_at _ _ _).1, V_c_0, table_at, V_c]
    show lit0 (S1128.rowMajor (ix1 (⟨n.val - 192, by omega⟩ : Fin 1128))) = _
    rw [row1]
    exact t.1
  · rw [(pair_at _ _ _).2, V_c_2, table_at, V_c_1]
    show lit1 (S1128.rowMajor (ix1 (⟨n.val - 192, by omega⟩ : Fin 1128))) = _
    rw [row1]
    exact t.2.1

end Cert.ReferenceIdeal.Hand

end
-- ==== Proof.ReferenceIdeal.Arrays.lean ====
/-
  What the reference's call leaves: the codes and the old rows, cast.
-/
module

public import proofs.«01_k».proof.Proof.Gen.ReferenceIdeal.Frame
public import Idealize.ShloMosaic.Lib.Pointwise
public import Idealize.ShloMosaic.Lib.Claim
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (ρ : Dev nD → PrngReg)

theorem arr2 (c : Dev nD) : (dats m 0 c).arrAt 2 cfg0.N = (show Vec Ideal S8192x192 .fp8e4m3 from V m c main_v31) := by
  refine (dats m 0 c).arrAt_eq_of_covers 2 _ (by decide +kernel) fun t hf y => ?_
  blk_simp
  rw [after0_2]
  frame_out
  obtain rfl := fin_N0 t
  pointwise [k0_pay1]
  rfl

theorem arr3 (c : Dev nD) : (dats m 0 c).arrAt 3 cfg0.N = (show Vec Ideal S8192x192 .bf16 from V m c main_v31) := by
  refine (dats m 0 c).arrAt_eq_of_covers 3 _ (by decide +kernel) fun t hf y => ?_
  blk_simp
  rw [after0_3]
  frame_out
  obtain rfl := fin_N0 t
  pointwise [k0_pay2]
  rfl

theorem arr4 (c : Dev nD) : (dats m 0 c).arrAt 4 cfg0.N = (show Vec Ideal S8192x47x192 .bf16 from V m c main_arg0) := by
  refine (dats m 0 c).arrAt_eq_of_covers 4 _ (by decide +kernel) fun t hf y => ?_
  blk_simp
  rw [after0_4]
  frame_out
  obtain rfl := fin_N0 t
  rfl

end Cert.ReferenceIdeal.Hand

end
-- ==== Proof.ReferenceIdeal.Square.lean ====
/-
  The reference's square of dot products, and its results read off it.
-/
module

public import proofs.«01_k».proof.Proof.ReferenceIdeal.Tables
public import proofs.«01_k».proof.Proof.ReferenceIdeal.Arrays

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (ρ : Dev nD → PrngReg)

/-- The reference's dequantised value at depth `d` of feature `f` of example `b`, of its codes `C`, its scales `S` and the rows handed in. -/
def opR (C : Vec Ideal S8192x192 .f32) (S : Vec Ideal S8192x6 .f32) (A0 : Vec Ideal S8192x47x192 .fp8e4m3) (A1 : Vec Ideal S8192x47x6 .f32)
    (f : Fin 48) (d : Fin 192) (b : Fin 8192) : EReal :=
  (if h : f.val < 1 then C (ix2 b d) else A0 (ix3 b (⟨f.val - 1, by omega⟩ : Fin 47) d))
    * (if h : f.val < 1 then S (ix2 b (⟨d.val / 32, by omega⟩ : Fin 6)) else A1 (ix3 b (⟨f.val - 1, by omega⟩ : Fin 47) (⟨d.val / 32, by omega⟩ : Fin 6)))

set_option maxHeartbeats 4000000 in
/-- The square of dot products. -/
theorem v43_at (c : Dev nD) (b : Fin 8192) (f g : Fin 48) : @Eq EReal (T m c main_v43 (ix3 b f g))
    (∑ d : Fin 192, opR (V m c main_v31) (V m c main_v19) (V m c main_arg0) (V m c main_arg1) f d b
      * opR (V m c main_v31) (V m c main_v19) (V m c main_arg0) (V m c main_arg1) g d b) := by
  unfold T Pipeline.afterTail₀
  rw [show ([hostOps1] : List (List (HloOp τ sig (Elt Ideal)))).flatten = hostOps1 from rfl]
  unfold hostOps1
  after_results
  rw [Pipeline.withArrays_arr spec0 (by decide) c _ _ 3, Pipeline.withArrays_arr spec0 (by decide) c _ _ 4,
    Pipeline.withArrays_of_ne spec0 c (V0 m c) _ main_v19 (by decide), Pipeline.withArrays_of_ne spec0 c (V0 m c) _ main_arg1 (by decide)]
  rw [show (dats m 0 c).arrAt 3 (cfgs 0).N = _ from arr3 m c, show (dats m 0 c).arrAt 4 (cfgs 0).N = _ from arr4 m c]
  generalize hB : (show Vec Ideal S8192x192 .bf16 from V m c main_v31) = B
  generalize hA : (show Vec Ideal S8192x47x192 .bf16 from V m c main_arg0) = A
  pointwise
  simp only [Nat.div_add_mod']
  subst hB hA
  rfl

theorem v58_eq (c : Dev nD) : T m c main_v58 = shapeCast S8192x47 (extractStridedSlice S8192x47x1 ![0, 1, 0] (T m c main_v43) slices_S8192x48x48_S8192x47x1_0_1_0) shapeCasts_S8192x47x1_S8192x47 := by
  unfold T Pipeline.afterTail₀
  rw [show ([hostOps1] : List (List (HloOp τ sig (Elt Ideal)))).flatten = hostOps1 from rfl]
  unfold hostOps1
  after_results
  rfl

theorem v58_at (c : Dev nD) (b : Fin 8192) (n : Fin 47) : T m c main_v58 (ix2 b n) = T m c main_v43 (ix3 b (⟨n.val + 1, by omega⟩ : Fin 48) (0 : Fin 48)) := by
  rw [v58_eq]
  generalize T m c main_v43 = D
  pointwise
  exact congrArg (fun q : Fin 48 => D (ix3 b q (0 : Fin 48))) (Fin.ext (Nat.add_comm _ _))

theorem v19_eq (c : Dev nD) : T m c main_v19 = V m c main_v19 := by
  unfold T Pipeline.afterTail₀
  rw [show ([hostOps1] : List (List (HloOp τ sig (Elt Ideal)))).flatten = hostOps1 from rfl]
  unfold hostOps1
  after_results
  rw [Pipeline.withArrays_of_ne spec0 c (V0 m c) _ main_v19 (by decide)]

end Cert.ReferenceIdeal.Hand

end
-- ==== Proof.ReferenceIdeal.Bound.lean ====
/-
  What the precondition says of the new features.
-/
module

public import proofs.«01_k».proof.Pre_finite
public import proofs.«01_k».proof.ReferenceIdeal
public import proofs.«01_k».proof.Proof.Gen.ReferenceIdeal.Skeleton
public import Idealize.ShloMosaic.Lib.ReduceAll
public import Idealize.ShloMosaic.PureOps.Ideal
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

theorem preFacts : Cert.Pre_finite.Facts :=
  { bitsLt_bf16_f32 := by decide
    bcast_S_S8192x192 := by decide
    reducesTo_S8192x192_S_d0_1 := by decide
    h_S_ := by decide }

instance : Subsingleton (Cert.Pre_finite.S_ : Shape).Idx := ⟨fun a b => funext fun i => absurd i.isLt (Nat.not_lt_zero _)⟩

/-- No new feature exceeds 255 · 2 ^ 120 in magnitude. -/
def Bounded (A2 : Vec Ideal S8192x192 .bf16) : Prop := ∀ i : S8192x192.Idx, @max EReal _ (A2 i) (-(A2 i)) ≤ Ideal.ofBits .f32 2139029504#32

/-- Where the precondition holds no new feature exceeds the bound it names. -/
theorem bound_of [Cert.Pre_finite.Facts] (A0 : Vec Ideal S8192x47x192 .fp8e4m3) (A1 : Vec Ideal S8192x47x6 .f32) (A2 : Vec Ideal S8192x192 .bf16)
    (h : Cert.Pre_finite.fn (F := Ideal) A0 A1 A2 = fun _ => 1#1) : Bounded A2 := by
  intro i
  have e := congrFun h (fun a => absurd a.isLt (Nat.not_lt_zero _))
  dsimp only [Cert.Pre_finite.fn] at e
  have e1 := Host.reduce_andi_all _ _ _ _ _ e i
  change Ideal.cmp .ole (max (A2 i) (-(A2 i))) (Ideal.ofBits .f32 2139029504#32) = 1#1 at e1
  unfold Ideal.cmp at e1
  by_contra hc
  simp [hc] at e1

end Cert.ReferenceIdeal.Hand

end
-- ==== Proof.ReferenceIdeal.Agree.lean ====
/-
  The reference computes what the kernel computes.
-/
module

public import proofs.«01_k».proof.Proof.ReferenceIdeal.Values
public import proofs.«01_k».proof.Proof.ReferenceIdeal.Exponent
public import proofs.«01_k».proof.Proof.ReferenceIdeal.Square
public import proofs.«01_k».proof.Proof.ReferenceIdeal.Bound
public import proofs.«01_k».proof.Proof.KernelIdeal.Results

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

open Idealize.SL.Sem
open Cert.KernelIdeal.Hand (groupMax scaleK codeK gmax gscl gcod gopd gdot R4 R5 R6 R7)

section agree
variable (A0 : Vec Ideal S8192x47x192 .fp8e4m3) (A1 : Vec Ideal S8192x47x6 .f32) (A2 : Vec Ideal S8192x192 .bf16)

theorem gmax_eq (k : Fin 6) (b : Fin 8192) : gmaxR A2 k b = gmax A2 k b := by
  unfold gmaxR gmax
  refine congrArg groupMax (funext fun r => congrArg (fun d : Fin 192 => A2 (ix2 b d)) (Fin.ext ?_))
  show k.val * 32 + r.val = 32 * k.val + r.val
  omega

variable (hb : Bounded A2)
include hb

/-- The two quantisers agree on every group of example `b`. -/
theorem quant_at (k : Fin 6) (b : Fin 8192) : scaleR (gmaxR A2 k b) = scaleK (gmax A2 k b) ∧ ∀ x, codeR (gmaxR A2 k b) x = codeK (gmax A2 k b) x := by
  have q := quant (gmax A2 k b) (groupMax_nonneg _) (groupMax_le _ _ fun r => hb _)
  rw [gmax_eq]
  exact ⟨q.1.symm, fun x => (q.2 x).symm⟩

variable (C : Vec Ideal S8192x192 .f32) (S : Vec Ideal S8192x6 .f32)
  (hC : ∀ (b : Fin 8192) (d : Fin 192), C (ix2 b d) = codeR (gmaxR A2 ⟨d.val / 32, by omega⟩ b) (A2 (ix2 b d)))
  (hS : ∀ (b : Fin 8192) (k : Fin 6), S (ix2 b k) = scaleR (gmaxR A2 k b))
include hC hS

theorem opR_eq (f : Fin 48) (d : Fin 192) (b : Fin 8192) : opR C S A0 A1 f d b = gopd A0 A1 A2 f.val d b := by
  unfold opR gopd gcod gscl
  by_cases h : f.val < 1
  · have h0 : f.val = 0 := by omega
    rw [dif_pos h, dif_pos h, if_pos h0, if_pos h0, hC, hS, (quant_at A2 hb _ b).1, (quant_at A2 hb _ b).2]
  · have h0 : f.val ≠ 0 := by omega
    have h1 : f.val - 1 < 47 := by omega
    rw [dif_neg h, dif_neg h, if_neg h0, if_neg h0, dif_pos h1, dif_pos h1]

/-- So do the squares of dot products. -/
theorem sum_eq (f g : Fin 48) (b : Fin 8192) : ∑ d : Fin 192, opR C S A0 A1 f d b * opR C S A0 A1 g d b = gdot A0 A1 A2 f.val g.val b :=
  Finset.sum_congr rfl fun d _ => by rw [opR_eq A0 A1 A2 hb C S hC hS, opR_eq A0 A1 A2 hb C S hC hS]

end agree

section run
variable (m : (ℓ : Loc nD τ sig) → Buf (Elt Ideal) ℓ) (ρ : Dev nD → PrngReg) (c : Dev nD)
  (hb : Bounded (m ((c.tc : Thread nD τ).loc main_arg2)))
include hb

theorem dots_eq (b : Fin 8192) (f g : Fin 48) : @Eq EReal (T m c main_v43 (ix3 b f g))
    (gdot (m ((c.tc : Thread nD τ).loc main_arg0)) (m ((c.tc : Thread nD τ).loc main_arg1)) (m ((c.tc : Thread nD τ).loc main_arg2)) f.val g.val b) := by
  rw [v43_at]
  rw [show V m c main_arg0 = m ((c.tc : Thread nD τ).loc main_arg0) from V_main_arg0 m c, show V m c main_arg1 = m ((c.tc : Thread nD τ).loc main_arg1) from V_main_arg1 m c]
  exact sum_eq _ _ _ hb _ _ (v31_at m c) (v19_at m c) f g b

theorem res56 : T m c main_v56 = R4 (m ((c.tc : Thread nD τ).loc main_arg0)) (m ((c.tc : Thread nD τ).loc main_arg1)) (m ((c.tc : Thread nD τ).loc main_arg2)) := by
  funext y
  obtain ⟨b, n, rfl⟩ : ∃ (b : Fin 8192) (n : Fin 1320), y = ix2 b n := ⟨y 0, y 1, eq_ix2 y⟩
  rw [v56_at]
  unfold R4
  refine dite_congr rfl (fun h => ?_) fun h => ?_
  · rw [show V m c main_arg2 = m ((c.tc : Thread nD τ).loc main_arg2) from V_main_arg2 m c]
    rfl
  · exact dots_eq m c hb b _ _

theorem res58 : T m c main_v58 = R5 (m ((c.tc : Thread nD τ).loc main_arg0)) (m ((c.tc : Thread nD τ).loc main_arg1)) (m ((c.tc : Thread nD τ).loc main_arg2)) := by
  funext y
  obtain ⟨b, n, rfl⟩ : ∃ (b : Fin 8192) (n : Fin 47), y = ix2 b n := ⟨y 0, y 1, eq_ix2 y⟩
  rw [v58_at]
  refine (dots_eq m c hb b _ _).trans ?_
  show gdot _ _ _ (n.val + 1) 0 b = gdot _ _ _ 0 (n.val + 1) b
  exact Finset.sum_congr rfl fun d _ => mul_comm _ _

theorem res32 : (dats m 0 c).arrAt 2 (cfgs 0).N = R6 (m ((c.tc : Thread nD τ).loc main_arg0)) (m ((c.tc : Thread nD τ).loc main_arg2)) := by
  refine (arr2 m c).trans ?_
  funext y
  obtain ⟨b, d, rfl⟩ : ∃ (b : Fin 8192) (d : Fin 192), y = ix2 b d := ⟨y 0, y 1, eq_ix2 y⟩
  refine (v31_at m c b d).trans ?_
  rw [(quant_at _ hb _ b).2]
  rfl

theorem res19 : T m c main_v19 = R7 (m ((c.tc : Thread nD τ).loc main_arg1)) (m ((c.tc : Thread nD τ).loc main_arg2)) := by
  rw [v19_eq]
  funext y
  obtain ⟨b, k, rfl⟩ : ∃ (b : Fin 8192) (k : Fin 6), y = ix2 b k := ⟨y 0, y 1, eq_ix2 y⟩
  refine (v19_at m c b k).trans ?_
  rw [(quant_at _ hb _ b).1]
  rfl
omit hb in
variable (hB : ∀ c : Dev nD, Bounded (m ((c.tc : Thread nD τ).loc main_arg2))) in
include hB in
/-- THE REFERENCE'S RUN, its results those of the kernel. -/
theorem reference_value : θ_run defs (onTc (τ := τ) (main (F := Ideal))) ⟨m, fun _ => 0, ρ⟩ (fun r => ∀ c : Dev nD,
      r.2.mem ((c.tc : Thread nD τ).loc main_v56) = R4 (m ((c.tc : Thread nD τ).loc main_arg0)) (m ((c.tc : Thread nD τ).loc main_arg1)) (m ((c.tc : Thread nD τ).loc main_arg2))
      ∧ r.2.mem ((c.tc : Thread nD τ).loc main_v58) = R5 (m ((c.tc : Thread nD τ).loc main_arg0)) (m ((c.tc : Thread nD τ).loc main_arg1)) (m ((c.tc : Thread nD τ).loc main_arg2))
      ∧ r.2.mem ((c.tc : Thread nD τ).loc main_v32_0) = R6 (m ((c.tc : Thread nD τ).loc main_arg0)) (m ((c.tc : Thread nD τ).loc main_arg2))
      ∧ r.2.mem ((c.tc : Thread nD τ).loc main_v19) = R7 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Gen.run_main m ρ
  · exact res56 m c (hB c)
  · exact res58 m c (hB c)
  · exact res32 m c (hB c)
  · exact res19 m c (hB c)
  · exact W_main_arg1 m (dats m) c
  · exact W_main_arg2 m (dats m) c
end run

end Cert.ReferenceIdeal.Hand

end
-- ==== Proof.lean ====
module

public import proofs.«01_k».proof.Defs
public import proofs.«01_k».proof.Proof.Kernel.Frame
public import proofs.«01_k».proof.Proof.KernelIdeal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Preserves
public import proofs.«01_k».proof.Proof.KernelIdeal.Results
public import proofs.«01_k».proof.Proof.ReferenceIdeal.Agree
public import Idealize.ShloMosaic.Adequacy
public import Idealize.ShloMosaic.Init

@[expose] public section

noncomputable section

namespace Cert.Proof

open Idealize.ShloMosaic Idealize.SL.Sem
open Idealize.ShloMosaic.TcCoe
open Cert.KernelIdeal.Hand (R4 R5 R6 R7)

/-- The ideal program and the reference end with equal results. -/
theorem algebraic [h : Cert.Pre_finite.Facts] : Cert.algebraic_KernelIdeal_ReferenceIdeal_pre_finite := by
  intro m g m' g' hpre hagree
  have hb : ∀ c : Dev Cert.ReferenceIdeal.nD, Cert.ReferenceIdeal.Hand.Bounded (m' ((c.tc : Thread Cert.ReferenceIdeal.nD Cert.ReferenceIdeal.τ).loc Cert.ReferenceIdeal.main_arg2)) := fun c => by
    rw [(hagree c).2.2]
    exact Cert.ReferenceIdeal.Hand.bound_of _ _ _ (hpre c)
  refine ⟨fun c => R4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => R5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => R6 (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => R7 (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.kernel_value m g, (θ_run _ _ _).mono (fun r h c => ?_) (Cert.ReferenceIdeal.Hand.reference_value m' g' hb)⟩
  have e := h c
  rw [(hagree c).1, (hagree c).2.1, (hagree c).2.2] at e
  rw [(hagree c).1, (hagree c).2.1, (hagree c).2.2]
  exact e

/-- Everything the certificate claims. -/
theorem claim : Cert.Claim := ⟨Cert.Kernel.Gen.facts, Cert.KernelIdeal.Gen.facts, Cert.ReferenceIdeal.Gen.facts, Cert.ReferenceIdeal.Hand.preFacts,
  fun m ρ _ => Cert.Kernel.Hand.frame (F := Bits) m ρ,
  fun m ρ _ => Cert.KernelIdeal.Hand.frame (F := Ideal) m ρ,
  fun m ρ _ => Cert.KernelIdeal.Hand.frame (F := Ideal) m ρ,
  fun m ρ _ => Cert.ReferenceIdeal.Gen.frame (F := Ideal) m ρ,
  fun m ρ _ => Cert.ReferenceIdeal.Gen.frame (F := Ideal) m ρ,
  preserves,
  algebraic (h := Cert.ReferenceIdeal.Hand.preFacts)⟩

end Cert.Proof

end
